-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x3AAAAAAB#32 ((1 / 768 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S112x1024x768 : Shape := ⟨3, ![112, 1024, 768]⟩
abbrev S112x1024 : Shape := ⟨2, ![112, 1024]⟩
abbrev S112x768 : Shape := ⟨2, ![112, 768]⟩
abbrev S112x3x768 : Shape := ⟨3, ![112, 3, 768]⟩
abbrev S112x8x3x768 : Shape := ⟨4, ![112, 8, 3, 768]⟩
abbrev S8x1024 : Shape := ⟨2, ![8, 1024]⟩
abbrev S8x768 : Shape := ⟨2, ![8, 768]⟩
abbrev S1x1024x768 : Shape := ⟨3, ![1, 1024, 768]⟩
abbrev S1x3x768 : Shape := ⟨3, ![1, 3, 768]⟩
abbrev S1x8x3x768 : Shape := ⟨4, ![1, 8, 3, 768]⟩
abbrev S8x8x128 : Shape := ⟨3, ![8, 8, 128]⟩
abbrev S8x128 : Shape := ⟨2, ![8, 128]⟩
abbrev S8x1x128 : Shape := ⟨3, ![8, 1, 128]⟩
abbrev S1x8x128 : Shape := ⟨3, ![1, 8, 128]⟩
abbrev S1x128 : Shape := ⟨2, ![1, 128]⟩
abbrev S1x768 : Shape := ⟨2, ![1, 768]⟩
abbrev S128x128 : Shape := ⟨2, ![128, 128]⟩
abbrev S128x1 : Shape := ⟨2, ![128, 1]⟩
abbrev S1x32x768 : Shape := ⟨3, ![1, 32, 768]⟩
abbrev S32x768 : Shape := ⟨2, ![32, 768]⟩
abbrev S32x1 : Shape := ⟨2, ![32, 1]⟩
abbrev S32 : Shape := ⟨1, ![32]⟩
abbrev S768 : Shape := ⟨1, ![768]⟩
abbrev S32x256 : Shape := ⟨2, ![32, 256]⟩
abbrev S32x128 : Shape := ⟨2, ![32, 128]⟩
abbrev S1x1x128 : Shape := ⟨3, ![1, 1, 128]⟩
abbrev S3x768 : Shape := ⟨2, ![3, 768]⟩
abbrev S1x1x3x768 : Shape := ⟨4, ![1, 1, 3, 768]⟩

abbrev nBuf : Space → Nat
  | .hbm => 12
  | .vmem => 29
  | .smem => 0
  | _ => 0

abbrev bufTy : (tb : Table) → Fin (tcTables nBuf tb) → BufTy
  | .hbm, ⟨0, _⟩ => ⟨S112x1024x768, .fp8e4m3⟩
  | .hbm, ⟨1, _⟩ => ⟨S112x1024, .f32⟩
  | .hbm, ⟨2, _⟩ => ⟨S112x1024x768, .bf16⟩
  | .hbm, ⟨3, _⟩ => ⟨S112x1024x768, .fp8e5m2⟩
  | .hbm, ⟨4, _⟩ => ⟨S112x1024, .f32⟩
  | .hbm, ⟨5, _⟩ => ⟨S112x1024x768, .fp8e5m2⟩
  | .hbm, ⟨6, _⟩ => ⟨S112x1024, .f32⟩
  | .hbm, ⟨7, _⟩ => ⟨S112x768, .f32⟩
  | .hbm, ⟨8, _⟩ => ⟨S112x3x768, .f32⟩
  | .hbm, ⟨9, _⟩ => ⟨S112x8x3x768, .f32⟩
  | .hbm, ⟨10, _⟩ => ⟨S112x1024x768, .fp8e5m2⟩
  | .hbm, ⟨11, _⟩ => ⟨S112x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x768, .f32⟩
  | .local _ .vmem, ⟨7, _⟩ => ⟨S8x768, .f32⟩
  | .local _ .vmem, ⟨8, _⟩ => ⟨S1x1024x768, .fp8e4m3⟩
  | .local _ .vmem, ⟨9, _⟩ => ⟨S1x1024x768, .fp8e4m3⟩
  | .local _ .vmem, ⟨10, _⟩ => ⟨S1x1024x768, .bf16⟩
  | .local _ .vmem, ⟨11, _⟩ => ⟨S1x1024x768, .bf16⟩
  | .local _ .vmem, ⟨12, _⟩ => ⟨S1x1024x768, .fp8e5m2⟩
  | .local _ .vmem, ⟨13, _⟩ => ⟨S1x1024x768, .fp8e5m2⟩
  | .local _ .vmem, ⟨14, _⟩ => ⟨S1x1024x768, .fp8e5m2⟩
  | .local _ .vmem, ⟨15, _⟩ => ⟨S1x1024x768, .fp8e5m2⟩
  | .local _ .vmem, ⟨16, _⟩ => ⟨S1x3x768, .f32⟩
  | .local _ .vmem, ⟨17, _⟩ => ⟨S1x3x768, .f32⟩
  | .local _ .vmem, ⟨18, _⟩ => ⟨S1x8x3x768, .f32⟩
  | .local _ .vmem, ⟨19, _⟩ => ⟨S1x8x3x768, .f32⟩
  | .local _ .vmem, ⟨20, _⟩ => ⟨S1x1024x768, .fp8e5m2⟩
  | .local _ .vmem, ⟨21, _⟩ => ⟨S1x1024x768, .fp8e5m2⟩
  | .local _ .vmem, ⟨22, _⟩ => ⟨S8x1024, .f32⟩
  | .local _ .vmem, ⟨23, _⟩ => ⟨S8x1024, .f32⟩
  | .local _ .vmem, ⟨24, _⟩ => ⟨S8x8x128, .f32⟩
  | .local _ .vmem, ⟨25, _⟩ => ⟨S8x8x128, .f32⟩
  | .local _ .vmem, ⟨26, _⟩ => ⟨S8x8x128, .f32⟩
  | .local _ .vmem, ⟨27, _⟩ => ⟨S8x8x128, .f32⟩
  | .local _ .vmem, ⟨28, _⟩ => ⟨S8x8x128, .f32⟩
  | _, _ => ⟨S112x1024x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![112], ![false]⟩

def k0_off1 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v130 : Index := Scalar.indexCast v9
  let c0_138 : Index := 0#32
  let c0_139 : Index := 0#32
  ![v130.toNat, 0, 0]
def k0_off2 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v650 : Index := Scalar.indexCast v9
  let c0_323 : Index := 0#32
  let c0_324 : Index := 0#32
  ![v650.toNat, 0, 0]
def k0_off3 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1160 : Index := Scalar.indexCast v9
  let c1_514 : Index := 1#32
  let c0_515 : Index := 0#32
  ![v1160.toNat, 1, 0]
def k0_off4 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1673 : Index := Scalar.indexCast v9
  let c2_708 : Index := 2#32
  let c0_709 : Index := 0#32
  ![v1673.toNat, 2, 0]
def k0_off5 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2186 : Index := Scalar.indexCast v9
  let c3_902 : Index := 3#32
  let c0_903 : Index := 0#32
  ![v2186.toNat, 3, 0]
def k0_off6 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2699 : Index := Scalar.indexCast v9
  let c4_1096 : Index := 4#32
  let c0_1097 : Index := 0#32
  ![v2699.toNat, 4, 0]
def k0_off7 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3212 : Index := Scalar.indexCast v9
  let c5_1290 : Index := 5#32
  let c0_1291 : Index := 0#32
  ![v3212.toNat, 5, 0]
def k0_off8 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3725 : Index := Scalar.indexCast v9
  let c6_1484 : Index := 6#32
  let c0_1485 : Index := 0#32
  ![v3725.toNat, 6, 0]
def k0_off9 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4238 : Index := Scalar.indexCast v9
  let c7_1678 : Index := 7#32
  let c0_1679 : Index := 0#32
  ![v4238.toNat, 7, 0]
def cc0_transform_0 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x768 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x768 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x3x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x768 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d" => some ((1 / 768 : ℝ) : EReal)
  | _ => none
-- ==== ReferenceIdeal.lean ====
abbrev S112x1024x768 : Shape := ⟨3, ![112, 1024, 768]⟩
abbrev S112x1024 : Shape := ⟨2, ![112, 1024]⟩
abbrev S112x768 : Shape := ⟨2, ![112, 768]⟩
abbrev S112x3x768 : Shape := ⟨3, ![112, 3, 768]⟩
abbrev S112x8x3x768 : Shape := ⟨4, ![112, 8, 3, 768]⟩
abbrev S112x1024x1 : Shape := ⟨3, ![112, 1024, 1]⟩
abbrev S112x8x128x768 : Shape := ⟨4, ![112, 8, 128, 768]⟩
abbrev S112x8x768 : Shape := ⟨3, ![112, 8, 768]⟩
abbrev S112x8x1x768 : Shape := ⟨4, ![112, 8, 1, 768]⟩
abbrev S112x1x768 : Shape := ⟨3, ![112, 1, 768]⟩
abbrev S112x1024x253 : Shape := ⟨3, ![112, 1024, 253]⟩

abbrev nBuf : Space → Nat
  | .hbm => 12
  | .vmem => 12
  | .smem => 0
  | _ => 0

abbrev bufTy : (tb : Table) → Fin (tcTables nBuf tb) → BufTy
  | .hbm, ⟨0, _⟩ => ⟨S112x1024x768, .fp8e4m3⟩
  | .hbm, ⟨1, _⟩ => ⟨S112x1024, .f32⟩
  | .hbm, ⟨2, _⟩ => ⟨S112x1024x768, .bf16⟩
  | .hbm, ⟨3, _⟩ => ⟨S112x1024x768, .fp8e5m2⟩
  | .hbm, ⟨4, _⟩ => ⟨S112x1024, .f32⟩
  | .hbm, ⟨5, _⟩ => ⟨S112x1024x768, .fp8e5m2⟩
  | .hbm, ⟨6, _⟩ => ⟨S112x1024, .f32⟩
  | .hbm, ⟨7, _⟩ => ⟨S112x768, .f32⟩
  | .hbm, ⟨8, _⟩ => ⟨S112x3x768, .f32⟩
  | .hbm, ⟨9, _⟩ => ⟨S112x8x3x768, .f32⟩
  | .hbm, ⟨10, _⟩ => ⟨S112x1024x768, .fp8e5m2⟩
  | .hbm, ⟨11, _⟩ => ⟨S112x1024, .f32⟩
  | .local _ .vmem, ⟨0, _⟩ => ⟨S112x1024x768, .fp8e4m3⟩
  | .local _ .vmem, ⟨1, _⟩ => ⟨S112x1024, .f32⟩
  | .local _ .vmem, ⟨2, _⟩ => ⟨S112x1024x768, .bf16⟩
  | .local _ .vmem, ⟨3, _⟩ => ⟨S112x1024x768, .fp8e5m2⟩
  | .local _ .vmem, ⟨4, _⟩ => ⟨S112x1024, .f32⟩
  | .local _ .vmem, ⟨5, _⟩ => ⟨S112x1024x768, .fp8e5m2⟩
  | .local _ .vmem, ⟨6, _⟩ => ⟨S112x1024, .f32⟩
  | .local _ .vmem, ⟨7, _⟩ => ⟨S112x768, .f32⟩
  | .local _ .vmem, ⟨8, _⟩ => ⟨S112x3x768, .f32⟩
  | .local _ .vmem, ⟨9, _⟩ => ⟨S112x8x3x768, .f32⟩
  | .local _ .vmem, ⟨10, _⟩ => ⟨S112x1024x768, .fp8e5m2⟩
  | .local _ .vmem, ⟨11, _⟩ => ⟨S112x1024, .f32⟩
  | _, _ => ⟨S112x1024x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S112x1024x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x1024x768 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S112x1024x768 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S112x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S112x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S112x3x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S112x8x3x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S112x1024x768 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S112x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Bits.Run.lean ====
/-
  One run of the kernel's body, at any grid point and from any contents of its buffers: the body is straight-line code, so one
  symbolic execution describes it whole. The run leaves every input as it was, and in every output block and every scratch buffer
  the list of pieces that the body stored there, the last first. Which pieces these are, the run finds; they depend only on the
  inputs' contents and on what the scratch buffers held before.
-/
module

public import proofs.«01_k».proof.Proof.Gen.Kernel.Frame
public import proofs.«01_k».proof.Proof.Gen.Kernel.Skeleton
public import Idealize.ShloMosaic.Lib.Pipeline.Frame
public import Idealize.ShloMosaic.Lib.Exec
public import Idealize.ShloMosaic.Lib.Affine
public import Idealize.ShloMosaic.Lib.Decide
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The rows that the body addresses by its grid point, in closed form -/

theorem k0_off1_eq : ∀ i : grid0.Coords, k0_off1 i = ![((i 0).val % 8), 0, 0] := by decide +kernel
instance closedOff_k0_off1 (i : grid0.Coords) : ClosedOff (k0_off1 i) := ⟨![((i 0).val % 8), 0, 0], k0_off1_eq i⟩
theorem k0_off2_eq : ∀ i : grid0.Coords, k0_off2 i = ![((i 0).val % 8), 0, 0] := by decide +kernel
instance closedOff_k0_off2 (i : grid0.Coords) : ClosedOff (k0_off2 i) := ⟨![((i 0).val % 8), 0, 0], k0_off2_eq i⟩
theorem k0_off3_eq : ∀ i : grid0.Coords, k0_off3 i = ![((i 0).val % 8), 1, 0] := by decide +kernel
instance closedOff_k0_off3 (i : grid0.Coords) : ClosedOff (k0_off3 i) := ⟨![((i 0).val % 8), 1, 0], k0_off3_eq i⟩
theorem k0_off4_eq : ∀ i : grid0.Coords, k0_off4 i = ![((i 0).val % 8), 2, 0] := by decide +kernel
instance closedOff_k0_off4 (i : grid0.Coords) : ClosedOff (k0_off4 i) := ⟨![((i 0).val % 8), 2, 0], k0_off4_eq i⟩
theorem k0_off5_eq : ∀ i : grid0.Coords, k0_off5 i = ![((i 0).val % 8), 3, 0] := by decide +kernel
instance closedOff_k0_off5 (i : grid0.Coords) : ClosedOff (k0_off5 i) := ⟨![((i 0).val % 8), 3, 0], k0_off5_eq i⟩
theorem k0_off6_eq : ∀ i : grid0.Coords, k0_off6 i = ![((i 0).val % 8), 4, 0] := by decide +kernel
instance closedOff_k0_off6 (i : grid0.Coords) : ClosedOff (k0_off6 i) := ⟨![((i 0).val % 8), 4, 0], k0_off6_eq i⟩
theorem k0_off7_eq : ∀ i : grid0.Coords, k0_off7 i = ![((i 0).val % 8), 5, 0] := by decide +kernel
instance closedOff_k0_off7 (i : grid0.Coords) : ClosedOff (k0_off7 i) := ⟨![((i 0).val % 8), 5, 0], k0_off7_eq i⟩
theorem k0_off8_eq : ∀ i : grid0.Coords, k0_off8 i = ![((i 0).val % 8), 6, 0] := by decide +kernel
instance closedOff_k0_off8 (i : grid0.Coords) : ClosedOff (k0_off8 i) := ⟨![((i 0).val % 8), 6, 0], k0_off8_eq i⟩
theorem k0_off9_eq : ∀ i : grid0.Coords, k0_off9 i = ![((i 0).val % 8), 7, 0] := by decide +kernel
instance closedOff_k0_off9 (i : grid0.Coords) : ClosedOff (k0_off9 i) := ⟨![((i 0).val % 8), 7, 0], k0_off9_eq i⟩

variable {F : FTy → Type} [FloatOps F]

local notation "𝕄" => MT nD τ sig Unit (Elt F) ℕ (UR sig nD τ) ℕ

/-! ## The run -/

set_option maxHeartbeats 40000000 in
/-- The pieces that the body stores into each output block and each scratch buffer, with the proof that the body runs: from the inputs
    at contents `x·`, the output blocks at anything and the scratch buffers at contents `s·`, to the inputs as they were and every
    other buffer with its pieces written. -/
noncomputable def kernelRun (c : Dev nD) (i : grid0.Coords) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x768 .f32) (harg4 : arg4.IsWhole) (arg5 : Memref sig .tc .vmem S1x1024x768 .fp8e4m3) (harg5 : arg5.IsWhole) (arg6 : Memref sig .tc .vmem S1x1024x768 .bf16) (harg6 : arg6.IsWhole) (arg7 : Memref sig .tc .vmem S1x1024x768 .fp8e5m2) (harg7 : arg7.IsWhole) (arg8 : Memref sig .tc .vmem S1x1024x768 .fp8e5m2) (harg8 : arg8.IsWhole) (arg9 : Memref sig .tc .vmem S1x3x768 .f32) (harg9 : arg9.IsWhole) (arg10 : Memref sig .tc .vmem S1x8x3x768 .f32) (harg10 : arg10.IsWhole) (arg11 : Memref sig .tc .vmem S1x1024x768 .fp8e5m2) (harg11 : arg11.IsWhole) (arg12 : Memref sig .tc .vmem S8x1024 .f32) (harg12 : arg12.IsWhole) (arg13 : Memref sig .tc .vmem S8x8x128 .f32) (harg13 : arg13.IsWhole) (arg14 : Memref sig .tc .vmem S8x8x128 .f32) (harg14 : arg14.IsWhole) (arg15 : Memref sig .tc .vmem S8x8x128 .f32) (harg15 : arg15.IsWhole) (arg16 : Memref sig .tc .vmem S8x8x128 .f32) (harg16 : arg16.IsWhole) (arg17 : Memref sig .tc .vmem S8x8x128 .f32) (harg17 : arg17.IsWhole)
    (x1 : Vec F S8x1024 .f32) (x2 : Vec F S8x1024 .f32) (x3 : Vec F S8x1024 .f32) (x4 : Vec F S8x768 .f32) (x5 : Vec F S1x1024x768 .fp8e4m3) (x6 : Vec F S1x1024x768 .bf16) (x7 : Vec F S1x1024x768 .fp8e5m2) (x8 : Vec F S1x1024x768 .fp8e5m2) (s13 : Vec F S8x8x128 .f32) (s14 : Vec F S8x8x128 .f32) (s15 : Vec F S8x8x128 .f32) (s16 : Vec F S8x8x128 .f32) (s17 : Vec F S8x8x128 .f32) :
    Σ' (L9 : List (View.Piece (Elt F) S1x3x768 .f32)), Σ' (L10 : List (View.Piece (Elt F) S1x8x3x768 .f32)), Σ' (L11 : List (View.Piece (Elt F) S1x1024x768 .fp8e5m2)), Σ' (L12 : List (View.Piece (Elt F) S8x1024 .f32)), Σ' (L13 : List (View.Piece (Elt F) S8x8x128 .f32)), Σ' (L14 : List (View.Piece (Elt F) S8x8x128 .f32)), Σ' (L15 : List (View.Piece (Elt F) S8x8x128 .f32)), Σ' (L16 : List (View.Piece (Elt F) S8x8x128 .f32)), { L17 : List (View.Piece (Elt F) S8x8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s13 ∗ owns (c : Thread nD τ) arg14 fullShare s14 ∗ owns (c : Thread nD τ) arg15 fullShare s15 ∗ owns (c : Thread nD τ) arg16 fullShare s16 ∗ owns (c : Thread nD τ) arg17 fullShare s17
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (arg16.view.loc (c : Thread nD τ) ↦[arg16.view.set]{fullShare} arg16.view.writes (Elt F) (harg16.unread s16) L16) ∗ (arg17.view.loc (c : Thread nD τ) ↦[arg17.view.set]{fullShare} arg17.view.writes (Elt F) (harg17.unread s17) L17)) -∗ K ⟨⟩))
          ⊢ wp frame (wpE (defs₀ (F := F)) Variants.none c none) E (cc0_adaln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0_adaln_bwd_eq_skeleton]; unfold cc0_adaln_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13; obtain rfl := harg14.eq_unread hf14; obtain rfl := harg15.eq_unread hf15; obtain rfl := harg16.eq_unread hf16; obtain rfl := harg17.eq_unread hf17
    sl_exec_parts
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexact H16
    iexact H17

end Cert.Kernel.Hand

end
-- ==== Proof.Bits.Frame.lean ====
/-
  The frame of the kernel over words: every run ends, with the argument arrays as they were and every semaphore counter at zero.
  Nothing is said of what the kernel leaves in its results.
-/
module

public import proofs.«01_k».proof.Proof.Bits.Run
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

abbrev sc0 : Memref sig .tc .vmem S8x8x128 .f32 := Memref.whole cc0_scratch0
abbrev sc1 : Memref sig .tc .vmem S8x8x128 .f32 := Memref.whole cc0_scratch1
abbrev sc2 : Memref sig .tc .vmem S8x8x128 .f32 := Memref.whole cc0_scratch2
abbrev sc3 : Memref sig .tc .vmem S8x8x128 .f32 := Memref.whole cc0_scratch3
abbrev sc4 : Memref sig .tc .vmem S8x8x128 .f32 := Memref.whole cc0_scratch4

/-- The invariant between points: the scratch buffers at some contents, the generator register at some state. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The results' windows, of which nothing is said. -/
def forgets0 : Fin 12 → Bool := fun w => decide (8 ≤ w.val)

/-- The proof data: each input's buffer holds its block after every point; the results' are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (iblk m c 4 t) from rfl]
  rw [show (dats m 0 c).leavesExact 5 t = owns (c : Thread nD τ) (st0_5 t) fullShare (iblk m c 5 t) from rfl]
  rw [show (dats m 0 c).leavesExact 6 t = owns (c : Thread nD τ) (st0_6 t) fullShare (iblk m c 6 t) from rfl]
  rw [show (dats m 0 c).leavesExact 7 t = owns (c : Thread nD τ) (st0_7 t) fullShare (iblk m c 7 t) from rfl]
  iintro ⟨⟨⟨⟨%e0, S0⟩, ⟨%e1, S1⟩, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun (F := F) c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) e0 e1 e2 e3 e4).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [S0]; · iexact S0
  isplitl [S1]; · iexact S1
  isplitl [S2]; · iexact S2
  isplitl [S3]; · iexact S3
  isplitl [S4]; · iexact S4
  iintro ⟨H0, H1, H2, H3, H4, H5, H6, H7, ⟨%f8, H8⟩, ⟨%f9, H9⟩, ⟨%f10, H10⟩, ⟨%f11, H11⟩, ⟨%g0, S0⟩, ⟨%g1, S1⟩, ⟨%g2, S2⟩, S3, S4⟩
  isplitl [S0 S1 S2 S3 S4 Hg]
  · isplitl [S0 S1 S2 S3 S4]
    · isplitl [S0]; · (iexists _; unfold owns; iexists _; isplitr; swap; (iexact S0); ipureintro; rfl)
      isplitl [S1]; · (iexists _; unfold owns; iexists _; isplitr; swap; (iexact S1); ipureintro; rfl)
      isplitl [S2]; · (iexists _; unfold owns; iexists _; isplitr; swap; (iexact S2); ipureintro; rfl)
      isplitl [S3]; · (iexists _; unfold owns; iexists _; isplitr; swap; (iexact S3); ipureintro; rfl)
      iexists _; unfold owns; iexists _; isplitr; swap; (iexact S4); ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · (iexists _; unfold owns; iexists _; isplitr; swap; (iexact H8); ipureintro; rfl)
  isplitl [H9]; · (iexists _; unfold owns; iexists _; isplitr; swap; (iexact H9); ipureintro; rfl)
  isplitl [H10]; · (iexists _; unfold owns; iexists _; isplitr; swap; (iexact H10); ipureintro; rfl)
  iexists _; unfold owns; iexists _; isplitr; swap; (iexact H11); ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1.arr_in c 4 rfl, h.1.arr_in c 0 rfl, h.1.arr_in c 5 rfl, h.1.arr_in c 6 rfl, h.1.arr_in c 1 rfl, h.1.arr_in c 7 rfl, h.1.arr_in c 2 rfl, h.1.arr_in c 3 rfl⟩, h.2⟩) (run_main m ρ)

end Cert.Kernel.Hand

end
-- ==== Proof.Ideal.Run.lean ====
/-
  One run of the kernel's body, at any grid point and from any contents of its buffers: the body is straight-line code, so one
  symbolic execution describes it whole. The run leaves every input as it was, and in every output block and every scratch buffer
  the list of pieces that the body stored there, the last first. Which pieces these are, the run finds; they depend only on the
  inputs' contents and on what the scratch buffers held before.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Exec
public import Idealize.ShloMosaic.Lib.Affine
public import Idealize.ShloMosaic.Lib.Decide
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The rows that the body addresses by its grid point, in closed form -/

theorem k0_off1_eq : ∀ i : grid0.Coords, k0_off1 i = ![((i 0).val % 8), 0, 0] := by decide +kernel
instance closedOff_k0_off1 (i : grid0.Coords) : ClosedOff (k0_off1 i) := ⟨![((i 0).val % 8), 0, 0], k0_off1_eq i⟩
theorem k0_off2_eq : ∀ i : grid0.Coords, k0_off2 i = ![((i 0).val % 8), 0, 0] := by decide +kernel
instance closedOff_k0_off2 (i : grid0.Coords) : ClosedOff (k0_off2 i) := ⟨![((i 0).val % 8), 0, 0], k0_off2_eq i⟩
theorem k0_off3_eq : ∀ i : grid0.Coords, k0_off3 i = ![((i 0).val % 8), 1, 0] := by decide +kernel
instance closedOff_k0_off3 (i : grid0.Coords) : ClosedOff (k0_off3 i) := ⟨![((i 0).val % 8), 1, 0], k0_off3_eq i⟩
theorem k0_off4_eq : ∀ i : grid0.Coords, k0_off4 i = ![((i 0).val % 8), 2, 0] := by decide +kernel
instance closedOff_k0_off4 (i : grid0.Coords) : ClosedOff (k0_off4 i) := ⟨![((i 0).val % 8), 2, 0], k0_off4_eq i⟩
theorem k0_off5_eq : ∀ i : grid0.Coords, k0_off5 i = ![((i 0).val % 8), 3, 0] := by decide +kernel
instance closedOff_k0_off5 (i : grid0.Coords) : ClosedOff (k0_off5 i) := ⟨![((i 0).val % 8), 3, 0], k0_off5_eq i⟩
theorem k0_off6_eq : ∀ i : grid0.Coords, k0_off6 i = ![((i 0).val % 8), 4, 0] := by decide +kernel
instance closedOff_k0_off6 (i : grid0.Coords) : ClosedOff (k0_off6 i) := ⟨![((i 0).val % 8), 4, 0], k0_off6_eq i⟩
theorem k0_off7_eq : ∀ i : grid0.Coords, k0_off7 i = ![((i 0).val % 8), 5, 0] := by decide +kernel
instance closedOff_k0_off7 (i : grid0.Coords) : ClosedOff (k0_off7 i) := ⟨![((i 0).val % 8), 5, 0], k0_off7_eq i⟩
theorem k0_off8_eq : ∀ i : grid0.Coords, k0_off8 i = ![((i 0).val % 8), 6, 0] := by decide +kernel
instance closedOff_k0_off8 (i : grid0.Coords) : ClosedOff (k0_off8 i) := ⟨![((i 0).val % 8), 6, 0], k0_off8_eq i⟩
theorem k0_off9_eq : ∀ i : grid0.Coords, k0_off9 i = ![((i 0).val % 8), 7, 0] := by decide +kernel
instance closedOff_k0_off9 (i : grid0.Coords) : ClosedOff (k0_off9 i) := ⟨![((i 0).val % 8), 7, 0], k0_off9_eq i⟩

variable {F : FTy → Type} [FloatOps F] [Named F]

local notation "𝕄" => MT nD τ sig Unit (Elt F) ℕ (UR sig nD τ) ℕ

/-! ## The run -/

set_option maxHeartbeats 40000000 in
/-- The pieces that the body stores into each output block and each scratch buffer, with the proof that the body runs: from the inputs
    at contents `x·`, the output blocks at anything and the scratch buffers at contents `s·`, to the inputs as they were and every
    other buffer with its pieces written. -/
noncomputable def kernelRun (c : Dev nD) (i : grid0.Coords) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x768 .f32) (harg4 : arg4.IsWhole) (arg5 : Memref sig .tc .vmem S1x1024x768 .fp8e4m3) (harg5 : arg5.IsWhole) (arg6 : Memref sig .tc .vmem S1x1024x768 .bf16) (harg6 : arg6.IsWhole) (arg7 : Memref sig .tc .vmem S1x1024x768 .fp8e5m2) (harg7 : arg7.IsWhole) (arg8 : Memref sig .tc .vmem S1x1024x768 .fp8e5m2) (harg8 : arg8.IsWhole) (arg9 : Memref sig .tc .vmem S1x3x768 .f32) (harg9 : arg9.IsWhole) (arg10 : Memref sig .tc .vmem S1x8x3x768 .f32) (harg10 : arg10.IsWhole) (arg11 : Memref sig .tc .vmem S1x1024x768 .fp8e5m2) (harg11 : arg11.IsWhole) (arg12 : Memref sig .tc .vmem S8x1024 .f32) (harg12 : arg12.IsWhole) (arg13 : Memref sig .tc .vmem S8x8x128 .f32) (harg13 : arg13.IsWhole) (arg14 : Memref sig .tc .vmem S8x8x128 .f32) (harg14 : arg14.IsWhole) (arg15 : Memref sig .tc .vmem S8x8x128 .f32) (harg15 : arg15.IsWhole) (arg16 : Memref sig .tc .vmem S8x8x128 .f32) (harg16 : arg16.IsWhole) (arg17 : Memref sig .tc .vmem S8x8x128 .f32) (harg17 : arg17.IsWhole)
    (x1 : Vec F S8x1024 .f32) (x2 : Vec F S8x1024 .f32) (x3 : Vec F S8x1024 .f32) (x4 : Vec F S8x768 .f32) (x5 : Vec F S1x1024x768 .fp8e4m3) (x6 : Vec F S1x1024x768 .bf16) (x7 : Vec F S1x1024x768 .fp8e5m2) (x8 : Vec F S1x1024x768 .fp8e5m2) (s13 : Vec F S8x8x128 .f32) (s14 : Vec F S8x8x128 .f32) (s15 : Vec F S8x8x128 .f32) (s16 : Vec F S8x8x128 .f32) (s17 : Vec F S8x8x128 .f32) :
    Σ' (L9 : List (View.Piece (Elt F) S1x3x768 .f32)), Σ' (L10 : List (View.Piece (Elt F) S1x8x3x768 .f32)), Σ' (L11 : List (View.Piece (Elt F) S1x1024x768 .fp8e5m2)), Σ' (L12 : List (View.Piece (Elt F) S8x1024 .f32)), Σ' (L13 : List (View.Piece (Elt F) S8x8x128 .f32)), Σ' (L14 : List (View.Piece (Elt F) S8x8x128 .f32)), Σ' (L15 : List (View.Piece (Elt F) S8x8x128 .f32)), Σ' (L16 : List (View.Piece (Elt F) S8x8x128 .f32)), { L17 : List (View.Piece (Elt F) S8x8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s13 ∗ owns (c : Thread nD τ) arg14 fullShare s14 ∗ owns (c : Thread nD τ) arg15 fullShare s15 ∗ owns (c : Thread nD τ) arg16 fullShare s16 ∗ owns (c : Thread nD τ) arg17 fullShare s17
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (arg16.view.loc (c : Thread nD τ) ↦[arg16.view.set]{fullShare} arg16.view.writes (Elt F) (harg16.unread s16) L16) ∗ (arg17.view.loc (c : Thread nD τ) ↦[arg17.view.set]{fullShare} arg17.view.writes (Elt F) (harg17.unread s17) L17)) -∗ K ⟨⟩))
          ⊢ wp frame (wpE (defs₀ (F := F)) Variants.none c none) E (cc0_adaln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0_adaln_bwd_eq_skeleton]; unfold cc0_adaln_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13; obtain rfl := harg14.eq_unread hf14; obtain rfl := harg15.eq_unread hf15; obtain rfl := harg16.eq_unread hf16; obtain rfl := harg17.eq_unread hf17
    sl_exec_parts
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexact H16
    iexact H17

end Cert.KernelIdeal.Hand

end
-- ==== Proof.Ideal.Frame.lean ====
/-
  The frame of the kernel over the extended reals: every run ends, with the argument arrays as they were and every semaphore counter at zero.
  Nothing is said of what the kernel leaves in its results.
-/
module

public import proofs.«01_k».proof.Proof.Ideal.Run
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

abbrev sc0 : Memref sig .tc .vmem S8x8x128 .f32 := Memref.whole cc0_scratch0
abbrev sc1 : Memref sig .tc .vmem S8x8x128 .f32 := Memref.whole cc0_scratch1
abbrev sc2 : Memref sig .tc .vmem S8x8x128 .f32 := Memref.whole cc0_scratch2
abbrev sc3 : Memref sig .tc .vmem S8x8x128 .f32 := Memref.whole cc0_scratch3
abbrev sc4 : Memref sig .tc .vmem S8x8x128 .f32 := Memref.whole cc0_scratch4

/-- The invariant between points: the scratch buffers at some contents, the generator register at some state. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The results' windows, of which nothing is said. -/
def forgets0 : Fin 12 → Bool := fun w => decide (8 ≤ w.val)

/-- The proof data: each input's buffer holds its block after every point; the results' are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (iblk m c 4 t) from rfl]
  rw [show (dats m 0 c).leavesExact 5 t = owns (c : Thread nD τ) (st0_5 t) fullShare (iblk m c 5 t) from rfl]
  rw [show (dats m 0 c).leavesExact 6 t = owns (c : Thread nD τ) (st0_6 t) fullShare (iblk m c 6 t) from rfl]
  rw [show (dats m 0 c).leavesExact 7 t = owns (c : Thread nD τ) (st0_7 t) fullShare (iblk m c 7 t) from rfl]
  iintro ⟨⟨⟨⟨%e0, S0⟩, ⟨%e1, S1⟩, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun (F := F) c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) e0 e1 e2 e3 e4).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [S0]; · iexact S0
  isplitl [S1]; · iexact S1
  isplitl [S2]; · iexact S2
  isplitl [S3]; · iexact S3
  isplitl [S4]; · iexact S4
  iintro ⟨H0, H1, H2, H3, H4, H5, H6, H7, ⟨%f8, H8⟩, ⟨%f9, H9⟩, ⟨%f10, H10⟩, ⟨%f11, H11⟩, ⟨%g0, S0⟩, ⟨%g1, S1⟩, ⟨%g2, S2⟩, S3, S4⟩
  isplitl [S0 S1 S2 S3 S4 Hg]
  · isplitl [S0 S1 S2 S3 S4]
    · isplitl [S0]; · (iexists _; unfold owns; iexists _; isplitr; swap; (iexact S0); ipureintro; rfl)
      isplitl [S1]; · (iexists _; unfold owns; iexists _; isplitr; swap; (iexact S1); ipureintro; rfl)
      isplitl [S2]; · (iexists _; unfold owns; iexists _; isplitr; swap; (iexact S2); ipureintro; rfl)
      isplitl [S3]; · (iexists _; unfold owns; iexists _; isplitr; swap; (iexact S3); ipureintro; rfl)
      iexists _; unfold owns; iexists _; isplitr; swap; (iexact S4); ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · (iexists _; unfold owns; iexists _; isplitr; swap; (iexact H8); ipureintro; rfl)
  isplitl [H9]; · (iexists _; unfold owns; iexists _; isplitr; swap; (iexact H9); ipureintro; rfl)
  isplitl [H10]; · (iexists _; unfold owns; iexists _; isplitr; swap; (iexact H10); ipureintro; rfl)
  iexists _; unfold owns; iexists _; isplitr; swap; (iexact H11); ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1.arr_in c 4 rfl, h.1.arr_in c 0 rfl, h.1.arr_in c 5 rfl, h.1.arr_in c 6 rfl, h.1.arr_in c 1 rfl, h.1.arr_in c 7 rfl, h.1.arr_in c 2 rfl, h.1.arr_in c 3 rfl⟩, h.2⟩) (run_main m ρ)

end Cert.KernelIdeal.Hand

end
-- ==== Proof.Ideal.Spec.lean ====
/- The row functions that both programs compute over the extended reals: the layer normalisation's backward pass of one
   token (a row of 768 numbers), the power-of-two scale of its quantisation, and the sums over a block of 128 tokens. -/
module

public import Idealize.ShloMosaic.Lib.Pointwise

@[expose] public section

noncomputable section

namespace Cert.Spec

open Idealize.ShloMosaic

/-- A row of 768 numbers. -/
abbrev Row : Type := Fin 768 → EReal

/-- The mean of a row. -/
def mean (v : Row) : EReal := Ideal.div (∑ k, v k) (Ideal.ofBits .f32 0x44400000#32)

/-- A row less its mean. -/
def center (v : Row) : Row := fun k => v k - mean v

/-- The reciprocal of the standard deviation of a row. -/
def rstd (v : Row) : EReal :=
  Ideal.rsqrt (mean (fun k => center v k * center v k) + Ideal.ofBits .f32 0x358637BD#32)

/-- A row normalised. -/
def xhat (v : Row) : Row := fun k => center v k * rstd v

/-- The gradient that reaches the normalised row: the modulated output's gradient times one plus the modulation. -/
def gRow (dh w : Row) : Row := fun k => dh k * w k

/-- The gradient of one token. -/
def dxRow (x dy dh w : Row) : Row := fun k =>
  dy k + rstd x * (gRow dh w k - mean (gRow dh w) - xhat x k * mean (fun k => gRow dh w k * xhat x k))

/-- The largest magnitude in a row. -/
def amax (v : Row) : EReal :=
  Finset.univ.fold max (Ideal.ofBits .f32 0xFF800000#32) (fun k => FloatOps.absf (F := Ideal) (φ := .f32) (v k))

/-- A row's largest magnitude over the largest fp8 value: what the scale is the next power of two above. -/
def ratio (v : Row) : EReal := amax v * Ideal.ofBits .f32 0x37924925#32

/-- The least of the powers of two `2 ^ -126`, …, `2 ^ 126` above `y`, and `2 ^ 126` if none is; one at zero and at infinity. -/
def scaleOf (y : EReal) : EReal :=
  if y = 0 ∨ y = ⊤ then 1
  else Finset.univ.fold min (⊤ : EReal) (fun k : Fin 253 =>
    if y < (((2 : ℝ) ^ ((k : ℤ) - 126) : ℝ) : EReal) then (((2 : ℝ) ^ ((k : ℤ) - 126) : ℝ) : EReal)
    else (((2 : ℝ) ^ (126 : ℤ) : ℝ) : EReal))

/-- The scale of a token. -/
def scaleRow (v : Row) : EReal := scaleOf (ratio v)

/-- The codes of a token. -/
def codeRow (v : Row) : Row := fun k =>
  min (Ideal.ofBits .f32 0x47600000#32) (max (Ideal.ofBits .f32 0xC7600000#32) (Ideal.div (v k) (scaleRow v)))

/-- One token's terms of the three sums over a block. -/
def term (x dy dh f : Row) (n : Fin 3) : Row := fun k =>
  if (n : ℕ) = 0 then dh k else if (n : ℕ) = 1 then dh k * xhat x k else dy k * f k

end Cert.Spec

end
-- ==== Proof.Ideal.Scale.lean ====
/- The power-of-two scale, computed two ways: as the least of the powers of two above the ratio (`Spec.scaleOf`), and through
   the exponent field, found by counting the powers of two that the ratio reaches. The two agree on every ratio that is
   not negative, infinity included. -/
module

public import proofs.«01_k».proof.Proof.Ideal.Spec
public import Idealize.ShloMosaic.Lib.IndicatorCount
public import Mathlib.Data.Finset.Fold
public import Mathlib.Data.Nat.Find

@[expose] public section

set_option maxRecDepth 16384

noncomputable section

namespace Cert.Spec

open Idealize.ShloMosaic

/-- The word whose float is the `k`-th of the powers of two that the count compares with: zero, `2 ^ -126`, …, `2 ^ 125`, and
    then infinity. -/
abbrev word (k : ℕ) : BitVec 32 :=
  IntOp.shli ArithUnit.vector
    (Scalar.select (IntOp.cmpi CmpIPredicate.sgt (BitVec.ofNat 32 k) 252#32) (255#32) (BitVec.ofNat 32 k)) 23#32

/-- How many of them `y` reaches, less one. -/
def kBiased (y : EReal) : BitVec 32 :=
  IntOp.subi (Finset.fold IntOp.addi (0#32) (fun x : Fin 256 => if y < Ideal.ofBits .f32 (word x) then 0#32 else 1#32) Finset.univ) 1#32

/-- The exponent of the scale. -/
def kExpo (y : EReal) : BitVec 32 :=
  Scalar.select (IntOp.ori (BitVec.ofBool (decide (y = 0))) (IntOp.cmpi CmpIPredicate.eq (kBiased y) 255#32)) (0#32)
    (IntOp.subi (kBiased y) 126#32)

/-- The scale. -/
def kScale (y : EReal) : EReal := Ideal.ofBits .f32 (IntOp.shli ArithUnit.vector (IntOp.addi (kExpo y) 127#32) 23#32)

/-- Its reciprocal. -/
def kInv (y : EReal) : EReal := Ideal.ofBits .f32 (IntOp.shli ArithUnit.vector (IntOp.subi (127#32) (kExpo y)) 23#32)

theorem word_eq : ∀ k : Fin 256, word k = BitVec.ofNat 32 ((if 252 < (k : ℕ) then 255 else (k : ℕ)) * 2 ^ 23) := by
  decide +kernel

theorem fields : ∀ n : Fin 256, ((BitVec.ofNat 32 ((n : ℕ) * 2 ^ 23)).extractLsb' 23 8).toNat = n
    ∧ ((BitVec.ofNat 32 ((n : ℕ) * 2 ^ 23)).extractLsb' 0 23).toNat = 0
    ∧ ((BitVec.ofNat 32 ((n : ℕ) * 2 ^ 23)).extractLsb' (8 + 23) 1 == 1#1) = false := by
  decide +kernel

/-- The float with exponent field `n` and no fraction. -/
theorem ofBits_pow (n : ℕ) (h0 : 0 < n) (h : n < 255) :
    Ideal.ofBits .f32 (BitVec.ofNat 32 (n * 2 ^ 23)) = (((2 : ℝ) ^ ((n : ℤ) - 127) : ℝ) : EReal) := by
  obtain ⟨h1, h2, h3⟩ := fields ⟨n, by omega⟩
  show Ideal.ieee 8 23 _ = _
  unfold Ideal.ieee
  simp only [h1, h2, h3]
  rw [if_neg (by omega), if_neg (by omega)]
  congr 1
  have e : ((n : ℤ) - 127) = 23 + ((n : ℤ) - (2 ^ (8 - 1) - 1) - (23 : ℕ)) := by norm_num
  rw [e, zpow_add₀ (by norm_num)]
  norm_num

theorem ofBits_zero_word : Ideal.ofBits .f32 (BitVec.ofNat 32 (0 * 2 ^ 23)) = 0 := by
  simp [Ideal.ofBits, Ideal.ieee]

theorem ofBits_top : Ideal.ofBits .f32 0x7F800000#32 = (⊤ : EReal) := by
  simp [Ideal.ofBits, Ideal.ieee]

theorem ofBits_126 : Ideal.ofBits .f32 0x7E800000#32 = (((2 : ℝ) ^ (126 : ℤ) : ℝ) : EReal) := by
  rw [show (0x7E800000#32 : BitVec 32) = BitVec.ofNat 32 (253 * 2 ^ 23) by decide, ofBits_pow 253 (by norm_num) (by norm_num)]
  norm_num

theorem card_le : ∀ m : Fin 256, (Finset.univ.filter fun k : Fin 256 => (k : ℕ) ≤ m).card = m + 1 := by
  decide +kernel

/-- A ratio that reaches exactly the first `m + 1` of the powers has the count `m`. -/
theorem kBiased_eq {y : EReal} {m : ℕ} (hm : m < 256) (h : ∀ k : Fin 256, ¬ y < Ideal.ofBits .f32 (word k) ↔ (k : ℕ) ≤ m) :
    kBiased y = BitVec.ofNat 32 m := by
  have e : (fun x : Fin 256 => if y < Ideal.ofBits .f32 (word x) then 0#32 else 1#32)
      = fun x : Fin 256 => (BitVec.ofBool (decide ((x : ℕ) ≤ m))).setWidth 32 := by
    funext x
    by_cases hx : (x : ℕ) ≤ m
    · rw [if_neg ((h x).2 hx), decide_eq_true hx]; rfl
    · rw [if_pos (not_not.1 fun hn => hx ((h x).1 hn)), decide_eq_false hx]; rfl
  unfold kBiased
  rw [e, IndicatorCount.fold_addi_setWidth_eq_card]
  have c : (Finset.univ.filter fun k : Fin 256 => BitVec.ofBool (decide ((k : ℕ) ≤ m)) = 1#1).card = m + 1 := by
    rw [← card_le ⟨m, hm⟩]
    congr 1
    ext k
    by_cases hx : (k : ℕ) ≤ m <;> simp [hx]
  rw [c]
  show BitVec.ofNat 32 (m + 1) - 1#32 = _
  rw [BitVec.ofNat_add]
  exact BitVec.add_sub_cancel _ _

theorem thr_small (k : Fin 256) (h0 : 0 < (k : ℕ)) (h : (k : ℕ) ≤ 252) :
    Ideal.ofBits .f32 (word k) = (((2 : ℝ) ^ ((k : ℤ) - 127) : ℝ) : EReal) := by
  rw [word_eq, if_neg (by omega), ofBits_pow _ h0 (by omega)]

theorem thr_zero (k : Fin 256) (h0 : (k : ℕ) = 0) : Ideal.ofBits .f32 (word k) = 0 := by
  rw [word_eq, if_neg (by omega), h0, ofBits_zero_word]

theorem thr_top (k : Fin 256) (h : 252 < (k : ℕ)) : Ideal.ofBits .f32 (word k) = (⊤ : EReal) := by
  rw [word_eq, if_pos h, show (BitVec.ofNat 32 (255 * 2 ^ 23)) = 0x7F800000#32 by decide, ofBits_top]

theorem coe_pow_le {a b : ℤ} (h : a ≤ b) : (((2 : ℝ) ^ a : ℝ) : EReal) ≤ (((2 : ℝ) ^ b : ℝ) : EReal) :=
  EReal.coe_le_coe_iff.2 (zpow_le_zpow_right₀ (by norm_num) h)

/-- The last of the powers that a positive real reaches. -/
theorem exists_last {y : EReal} (h0 : 0 ≤ y) (ht : y ≠ ⊤) :
    ∃ m : ℕ, m ≤ 252 ∧ ∀ k : Fin 256, ¬ y < Ideal.ofBits .f32 (word k) ↔ (k : ℕ) ≤ m := by
  classical
  let P : ℕ → Prop := fun k => k = 0 ∨ (((2 : ℝ) ^ ((k : ℤ) - 127) : ℝ) : EReal) ≤ y
  refine ⟨Nat.findGreatest P 252, Nat.findGreatest_le _, fun k => ?_⟩
  have hP : P (Nat.findGreatest P 252) := Nat.findGreatest_spec (m := 0) (by omega) (.inl rfl)
  rcases Nat.eq_zero_or_pos (k : ℕ) with hk | hk
  · rw [thr_zero k hk]
    exact ⟨fun _ => by omega, fun _ => not_lt.2 h0⟩
  · by_cases hk2 : (k : ℕ) ≤ 252
    · rw [thr_small k hk hk2, not_lt]
      constructor
      · intro h
        exact Nat.le_findGreatest hk2 (.inr h)
      · intro h
        rcases hP with hP | hP
        · omega
        · exact (coe_pow_le (by omega)).trans hP
    · rw [thr_top k (by omega)]
      refine ⟨fun h => absurd (lt_top_iff_ne_top.2 ht) h, fun h => ?_⟩
      have := Nat.findGreatest_le (P := P) 252
      omega

theorem expo_words : ∀ m : Fin 253, IntOp.cmpi CmpIPredicate.eq (BitVec.ofNat 32 m) 255#32 = 0#1
    ∧ IntOp.shli ArithUnit.vector (IntOp.addi (IntOp.subi (BitVec.ofNat 32 m) 126#32) 127#32) 23#32 = BitVec.ofNat 32 ((m + 1 : ℕ) * 2 ^ 23)
    ∧ IntOp.shli ArithUnit.vector (IntOp.subi (127#32) (IntOp.subi (BitVec.ofNat 32 m) 126#32)) 23#32 = BitVec.ofNat 32 ((253 - m : ℕ) * 2 ^ 23) := by
  decide +kernel

/-- The least power above a ratio that reaches exactly the first `m + 1` of the powers. -/
theorem scaleOf_eq {y : EReal} (h0 : y ≠ 0) (ht : y ≠ ⊤) {m : ℕ} (hm : m ≤ 252)
    (h : ∀ k : Fin 256, ¬ y < Ideal.ofBits .f32 (word k) ↔ (k : ℕ) ≤ m) :
    scaleOf y = (((2 : ℝ) ^ ((m : ℤ) - 126) : ℝ) : EReal) := by
  unfold scaleOf
  rw [if_neg (by tauto)]
  have key : ∀ j : Fin 253, (j : ℕ) < 252 → (y < (((2 : ℝ) ^ ((j : ℤ) - 126) : ℝ) : EReal) ↔ m ≤ j) := by
    intro j hj
    have := h ⟨j + 1, by omega⟩
    rw [thr_small _ (by simp) (by simp; omega)] at this
    rw [show (((⟨j + 1, by omega⟩ : Fin 256) : ℕ) : ℤ) - 127 = (j : ℤ) - 126 by simp; ring] at this
    constructor
    · intro hy; by_contra hc; exact this.2 (by simp; omega) hy
    · intro hy; by_contra hc; have := this.1 hc; simp at this; omega
  refine le_antisymm (Finset.fold_min_le _ |>.2 (.inr ⟨⟨m, by omega⟩, Finset.mem_univ _, ?_⟩)) (Finset.le_fold_min _ |>.2 ⟨le_top, fun j _ => ?_⟩)
  · by_cases hm' : m < 252
    · rw [if_pos ((key ⟨m, by omega⟩ hm').2 le_rfl)]
    · have : m = 252 := by omega
      subst this
      norm_num
  · by_cases hj : (j : ℕ) < 252
    · split_ifs with hy
      · exact coe_pow_le (by have := (key j hj).1 hy; omega)
      · exact coe_pow_le (by omega)
    · split_ifs
      · exact coe_pow_le (by have := j.isLt; omega)
      · exact coe_pow_le (by omega)

theorem one_words : (Ideal.ofBits .f32 (IntOp.shli ArithUnit.vector (IntOp.addi (0#32) 127#32) 23#32) = (1 : EReal))
    ∧ (Ideal.ofBits .f32 (IntOp.shli ArithUnit.vector (IntOp.subi (127#32) (0#32)) 23#32) = (1 : EReal)) := by
  have e1 : IntOp.shli ArithUnit.vector (IntOp.addi (0#32) 127#32) 23#32 = BitVec.ofNat 32 (127 * 2 ^ 23) := by decide +kernel
  have e2 : IntOp.shli ArithUnit.vector (IntOp.subi (127#32) (0#32)) 23#32 = BitVec.ofNat 32 (127 * 2 ^ 23) := by decide +kernel
  rw [e1, e2, ofBits_pow 127 (by norm_num) (by norm_num)]
  norm_num

/-- At zero and at infinity the exponent is zero. -/
theorem kExpo_corner {y : EReal} (h : y = 0 ∨ y = ⊤) : kExpo y = 0#32 := by
  unfold kExpo
  rcases h with h | h
  · rw [decide_eq_true h]
    generalize IntOp.cmpi CmpIPredicate.eq (kBiased y) 255#32 = b
    have : IntOp.ori (BitVec.ofBool true) b = 1#1 := by revert b; decide
    rw [this]; rfl
  · have hb : kBiased y = 255#32 := by
      rw [kBiased_eq (m := 255) (by norm_num) fun k => ⟨fun _ => by have := k.isLt; omega, fun _ => by rw [h]; exact not_top_lt⟩]
    rw [hb]
    generalize BitVec.ofBool (decide (y = 0)) = b
    have : IntOp.ori b (IntOp.cmpi CmpIPredicate.eq (255#32) 255#32) = 1#1 := by revert b; decide
    rw [this]; rfl

theorem kExpo_eq {y : EReal} (h0 : y ≠ 0) {m : ℕ} (hm : m ≤ 252)
    (h : ∀ k : Fin 256, ¬ y < Ideal.ofBits .f32 (word k) ↔ (k : ℕ) ≤ m) : kExpo y = IntOp.subi (BitVec.ofNat 32 m) 126#32 := by
  unfold kExpo
  rw [kBiased_eq (by omega) h, decide_eq_false h0, (expo_words ⟨m, by omega⟩).1]
  rfl

/-- The two scales agree. -/
theorem kScale_eq {y : EReal} (hy : 0 ≤ y) : kScale y = scaleOf y := by
  unfold kScale
  by_cases hc : y = 0 ∨ y = ⊤
  · rw [kExpo_corner hc, one_words.1, scaleOf, if_pos hc]
  · obtain ⟨h0, ht⟩ := not_or.1 hc
    obtain ⟨m, hm, h⟩ := exists_last hy ht
    rw [kExpo_eq h0 hm h, scaleOf_eq h0 ht hm h, (expo_words ⟨m, by omega⟩).2.1]
    rw [ofBits_pow (m + 1) (by omega) (by omega)]
    congr 2
    push_cast; ring

/-- Multiplying by the reciprocal is dividing by the scale. -/
theorem mul_kInv {y : EReal} (hy : 0 ≤ y) (v : EReal) : v * kInv y = Ideal.div v (scaleOf y) := by
  unfold kInv
  by_cases hc : y = 0 ∨ y = ⊤
  · rw [kExpo_corner hc, one_words.2, scaleOf, if_pos hc]
    rw [show (1 : EReal) = ((1 : ℝ) : EReal) from rfl, Ideal.div_coe one_ne_zero]
    norm_num
  · obtain ⟨h0, ht⟩ := not_or.1 hc
    obtain ⟨m, hm, h⟩ := exists_last hy ht
    rw [kExpo_eq h0 hm h, scaleOf_eq h0 ht hm h, (expo_words ⟨m, by omega⟩).2.2]
    rw [ofBits_pow (253 - m) (by omega) (by omega), Ideal.div_coe (zpow_ne_zero _ (by norm_num))]
    congr 2
    rw [one_div, ← zpow_neg]
    congr 1
    rw [Nat.cast_sub (by omega)]
    push_cast; ring

/-- A row's largest magnitude is not negative, so its ratio is not. -/
theorem ratio_nonneg (v : Row) : 0 ≤ ratio v := by
  have hc : (0 : EReal) ≤ Ideal.ofBits .f32 0x37924925#32 := by
    simp [Ideal.ofBits, Ideal.ieee, -EReal.coe_mul]
  have ha : 0 ≤ amax v := by
    unfold amax
    refine (Finset.le_fold_max _).2 (.inr ⟨0, Finset.mem_univ _, ?_⟩)
    show (0 : EReal) ≤ max (v 0) (-(v 0))
    rcases le_total 0 (v 0) with h | h
    · exact le_max_of_le_left h
    · exact le_max_of_le_right (EReal.neg_nonneg.2 h)
  exact EReal.mul_nonneg ha hc

/-- The exponential of the reference's lane numbers. -/
theorem sub_words : ∀ x : Fin 253, (IntOp.subi (BitVec.ofNat 32 x) 126#32).toInt = (x : ℤ) - 126 := by
  decide +kernel

theorem exp2_lane (x : Fin 253) :
    FloatOps.exp2 (F := Ideal) (φ := .f32) (FloatOps.sitofp .f32 (IntOp.subi (BitVec.ofNat 32 x) 126#32))
      = (((2 : ℝ) ^ ((x : ℤ) - 126) : ℝ) : EReal) := by
  show Ideal.exp2 ((((IntOp.subi (BitVec.ofNat 32 x) 126#32).toInt : ℝ) : EReal)) = _
  rw [Ideal.exp2_coe, sub_words x]
  congr 1
  exact Real.rpow_intCast 2 _

/-- The reference's scale. -/
theorem refScale_eq (y : EReal) :
    Scalar.select (IntOp.ori (BitVec.ofBool (decide (y = 0))) (BitVec.ofBool (decide (y = Ideal.ofBits .f32 0x7F800000#32)))) 1
      (Finset.fold min (Ideal.ofBits .f32 0x7F800000#32)
        (fun x : Fin 253 =>
          if y < FloatOps.exp2 (F := Ideal) (φ := .f32) (FloatOps.sitofp .f32 (IntOp.subi (BitVec.ofNat 32 x) 126#32)) then
            FloatOps.exp2 (F := Ideal) (φ := .f32) (FloatOps.sitofp .f32 (IntOp.subi (BitVec.ofNat 32 x) 126#32))
          else Ideal.ofBits .f32 0x7E800000#32) Finset.univ) = scaleOf y := by
  simp only [exp2_lane, ofBits_top, ofBits_126]
  unfold scaleOf
  by_cases h0 : y = 0
  · rw [if_pos (.inl h0), decide_eq_true h0]
    generalize BitVec.ofBool (decide (y = ⊤)) = b
    have : IntOp.ori (BitVec.ofBool true) b = 1#1 := by revert b; decide
    rw [this]; rfl
  · by_cases ht : y = ⊤
    · rw [if_pos (.inr ht), decide_eq_true ht]
      generalize BitVec.ofBool (decide (y = 0)) = b
      have : IntOp.ori b (BitVec.ofBool true) = 1#1 := by revert b; decide
      rw [this]; rfl
    · rw [if_neg (by tauto), decide_eq_false h0, decide_eq_false ht]
      rfl

end Cert.Spec

end
-- ==== Proof.Ideal.Chunk.lean ====
/- One chunk of 32 tokens, in the kernel's own operations, as functions of the chunk's rows: what the 32 chunks of a grid
   point's body all compute. Each function is then read at an index over the extended reals. -/
module

public import proofs.«01_k».proof.Proof.Gen.KernelIdeal.Skeleton
public import proofs.«01_k».proof.Proof.Ideal.Scale
public import Idealize.ShloMosaic.Lib.Pointwise

@[expose] public section

set_option maxRecDepth 16384

noncomputable section

namespace Cert.KernelIdeal.Chunk

open Idealize.ShloMosaic Idealize.ShloMosaic.TcCoe Idealize.SL.Sem
open Cert.KernelIdeal Cert.KernelIdeal.Gen Cert.Spec

section Defs
variable {F : FTy → Type} [FloatOps F] [Named F]

/-- Rows of codes times their scales. -/
def scaled {φ : FTy} (h : φ.bits < FTy.f32.bits) (x : FVec F S1x32x768 φ) (s : FVec F S32x1 .f32) : FVec F S32x768 .f32 :=
  mulf (extf .f32 (shapeCast S32x768 x shapeCasts_S1x32x768_S32x768) h) (broadcastTo S32x768 s broadcasts_S32x1_S32x768)

/-- The rows of the branch's output, which carry no scale. -/
def plain (x : FVec F S1x32x768 .bf16) : FVec F S32x768 .f32 :=
  extf .f32 (shapeCast S32x768 x shapeCasts_S1x32x768_S32x768) bitsLt_bf16_f32

/-- The mean of each row. -/
def mean (v : FVec F S32x768 .f32) : FVec F S32x1 .f32 :=
  mulf (shapeCast S32x1 (multiReduction .add [1] S32 v 0x00000000#32 reduces_S32x768_S32 (.inl rfl) rfl) shapeCasts_S32_S32x1)
    (broadcast S32x1 (Named.named κ "inv_d" 0x3AAAAAAB#32))

/-- Each row less its mean. -/
def center (v : FVec F S32x768 .f32) : FVec F S32x768 .f32 :=
  subf v (broadcastTo S32x768 (mean v) broadcasts_S32x1_S32x768)

/-- The reciprocal of each row's standard deviation. -/
def rstd (v : FVec F S32x768 .f32) : FVec F S32x1 .f32 :=
  rsqrt (addf (mean (mulf (center v) (center v))) (broadcast S32x1 (Scalar.ofBits .f32 0x358637BD#32)))

/-- Each row normalised. -/
def xhat (v : FVec F S32x768 .f32) : FVec F S32x768 .f32 :=
  mulf (center v) (broadcastTo S32x768 (rstd v) broadcasts_S32x1_S32x768)

/-- Each row times the modulation. -/
def gRow (dh : FVec F S32x768 .f32) (w : FVec F S1x768 .f32) : FVec F S32x768 .f32 :=
  mulf dh (broadcastTo S32x768 w broadcasts_S1x768_S32x768)

/-- The gradient of each row. -/
def dx (x dy dh : FVec F S32x768 .f32) (w : FVec F S1x768 .f32) : FVec F S32x768 .f32 :=
  addf dy (mulf (broadcastTo S32x768 (rstd x) broadcasts_S32x1_S32x768)
    (subf (subf (gRow dh w) (broadcastTo S32x768 (mean (gRow dh w)) broadcasts_S32x1_S32x768))
      (mulf (xhat x) (broadcastTo S32x768 (mean (mulf (gRow dh w) (xhat x))) broadcasts_S32x1_S32x768))))

/-- Each row's largest magnitude over the largest fp8 value. -/
def ratio (v : FVec F S32x768 .f32) : FVec F S32x1 .f32 :=
  mulf (shapeCast S32x1 (multiReduction .maximumf [1] S32 (absf v) 0xFF800000#32 reduces_S32x768_S32 (.inl rfl) rfl)
    shapeCasts_S32_S32x1) (broadcast S32x1 (Scalar.ofBits .f32 0x37924925#32))

/-- Which of the powers of two each ratio reaches. -/
def reached (y : FVec F S32x1 .f32) : IVec S32x256 32 :=
  select (cmpf .olt (broadcastTo S32x256 y broadcasts_S32x1_S32x256)
      (bitcastToFloat .f32 (shli (select (cmpi .sgt (iota .tc S32x256 32 [1] iota_S32x256_d1_w32) (broadcast S32x256 252#32))
        (broadcast S32x256 255#32) (iota .tc S32x256 32 [1] iota_S32x256_d1_w32)) (broadcast S32x256 23#32))))
    (broadcast S32x256 0#32) (broadcast S32x256 1#32)

/-- How many it reaches, less one. -/
def biased (y : FVec F S32x1 .f32) : IVec S32x1 32 :=
  subi (shapeCast S32x1 (multiReductionI .add [1] S32 (reached y) 0#32 reduces_S32x256_S32 rfl) shapeCasts_S32_S32x1)
    (broadcast S32x1 1#32)

/-- The exponent of each row's scale. -/
def expo (y : FVec F S32x1 .f32) : IVec S32x1 32 :=
  select (ori (cmpf .oeq y (broadcast S32x1 (Scalar.ofBits .f32 0x00000000#32))) (cmpi .eq (biased y) (broadcast S32x1 255#32)))
    (broadcast S32x1 0#32) (subi (biased y) (broadcast S32x1 126#32))

/-- Each row's scale. -/
def scale (y : FVec F S32x1 .f32) : FVec F S32x1 .f32 :=
  bitcastToFloat .f32 (shli (addi (expo y) (broadcast S32x1 127#32)) (broadcast S32x1 23#32))

/-- The reciprocal of each row's scale. -/
def inv (y : FVec F S32x1 .f32) : FVec F S32x1 .f32 :=
  bitcastToFloat .f32 (shli (subi (broadcast S32x1 127#32) (expo y)) (broadcast S32x1 23#32))

/-- The codes of the rows. -/
def codes (v : FVec F S32x768 .f32) : FVec F S1x32x768 .fp8e5m2 :=
  shapeCast S1x32x768 (truncf .fp8e5m2 (minimumf (broadcast S32x768 (Scalar.ofBits .f32 0x47600000#32))
    (maximumf (broadcast S32x768 (Scalar.ofBits .f32 0xC7600000#32))
      (mulf v (broadcastTo S32x768 (inv (ratio v)) broadcasts_S32x1_S32x768)))) bitsLt_fp8e5m2_f32) shapeCasts_S32x768_S1x32x768

/-- The scales of the rows, each along 128 lanes. -/
def scaleLanes (v : FVec F S32x768 .f32) : FVec F S32x128 .f32 :=
  broadcastTo S32x128 (shapeCast S32x1 (scale (ratio v)) shapeCasts_S32x1_S32x1) broadcasts_S32x1_S32x128

/-- A running sum over tokens with a chunk's rows added. -/
def acc (a : FVec F S1x768 .f32) (t : FVec F S32x768 .f32) : FVec F S1x768 .f32 :=
  addf a (shapeCast S1x768 (multiReduction .add [0] S768 t 0x00000000#32 reduces_S32x768_S768 (.inl rfl) rfl) shapeCasts_S768_S1x768)

/-- The gradient of a chunk's rows, from the loaded codes, the rows of scales and the modulation. -/
def grad (w : FVec F S1x768 .f32) (sx sy sh : FVec F S32x1 .f32) (x : FVec F S1x32x768 .fp8e4m3) (y h : FVec F S1x32x768 .fp8e5m2) :
    FVec F S32x768 .f32 :=
  dx (scaled bitsLt_fp8e4m3_f32 x sx) (scaled bitsLt_fp8e5m2_f32 y sy) (scaled bitsLt_fp8e5m2_f32 h sh) w

end Defs

theorem scaled_apply {φ : FTy} (h : φ.bits < FTy.f32.bits) (x : FVec Ideal S1x32x768 φ) (s : FVec Ideal S32x1 .f32)
    (i : Fin 32) (k : Fin 768) : scaled h x s (ix2 i k) = x (ix3 0 i k) * s (ix2 i 0) := by
  pointwise [scaled]

theorem plain_apply (x : FVec Ideal S1x32x768 .bf16) (i : Fin 32) (k : Fin 768) : plain x (ix2 i k) = x (ix3 0 i k) := by
  pointwise [plain]

theorem ofBits_768 : Ideal.ofBits .f32 0x44400000#32 = ((768 : ℝ) : EReal) := by
  simp [Ideal.ofBits, Ideal.ieee, -EReal.coe_mul]; norm_num

theorem named_inv_d : (Named.named (F := Ideal) (φ := .f32) κ "inv_d" 0x3AAAAAAB#32 : EReal) = ((1 / 768 : ℝ) : EReal) :=
  IdealRules.named_const.ideal_named_scalar _ _ _ _ rfl

theorem mean_apply (v : FVec Ideal S32x768 .f32) (i : Fin 32) (u : Fin 1) : mean v (ix2 i u) = Spec.mean (fun k => v (ix2 i k)) := by
  unfold Spec.mean
  rw [ofBits_768, Ideal.div_coe (by norm_num), ← named_inv_d]
  pointwise [mean]

theorem center_apply (v : FVec Ideal S32x768 .f32) (i : Fin 32) (k : Fin 768) :
    center v (ix2 i k) = Spec.center (fun k => v (ix2 i k)) k := by
  pointwise [center, mean_apply, Spec.center]

theorem rstd_apply (v : FVec Ideal S32x768 .f32) (i : Fin 32) (u : Fin 1) : rstd v (ix2 i u) = Spec.rstd (fun k => v (ix2 i k)) := by
  pointwise [rstd, mean_apply, center_apply, Spec.rstd]

theorem xhat_apply (v : FVec Ideal S32x768 .f32) (i : Fin 32) (k : Fin 768) :
    xhat v (ix2 i k) = Spec.xhat (fun k => v (ix2 i k)) k := by
  pointwise [xhat, center_apply, rstd_apply, Spec.xhat]

theorem gRow_apply (dh : FVec Ideal S32x768 .f32) (w : FVec Ideal S1x768 .f32) (i : Fin 32) (k : Fin 768) :
    gRow dh w (ix2 i k) = Spec.gRow (fun k => dh (ix2 i k)) (fun k => w (ix2 0 k)) k := by
  pointwise [gRow, Spec.gRow]

theorem dx_apply (x dy dh : FVec Ideal S32x768 .f32) (w : FVec Ideal S1x768 .f32) (i : Fin 32) (k : Fin 768) :
    dx x dy dh w (ix2 i k)
      = dxRow (fun k => x (ix2 i k)) (fun k => dy (ix2 i k)) (fun k => dh (ix2 i k)) (fun k => w (ix2 0 k)) k := by
  pointwise [dx, gRow_apply, mean_apply, xhat_apply, rstd_apply, dxRow]

theorem ratio_apply (v : FVec Ideal S32x768 .f32) (i : Fin 32) (u : Fin 1) :
    ratio v (ix2 i u) = Spec.ratio (fun k => v (ix2 i k)) := by
  pointwise [ratio, Spec.ratio, amax]

theorem acc_apply (a : FVec Ideal S1x768 .f32) (t : FVec Ideal S32x768 .f32) (u : Fin 1) (k : Fin 768) :
    acc a t (ix2 u k) = a (ix2 u k) + ∑ i : Fin 32, t (ix2 i k) := by
  pointwise [acc]

theorem biased_apply (y : FVec Ideal S32x1 .f32) (i : Fin 32) (u : Fin 1) : biased y (ix2 i u) = kBiased (y (ix2 i 0)) := by
  pointwise [biased, reached, kBiased, word]

theorem expo_apply (y : FVec Ideal S32x1 .f32) (i : Fin 32) : expo y (ix2 i 0) = kExpo (y (ix2 i 0)) := by
  pointwise [expo, biased_apply, kExpo]

theorem scale_apply (y : FVec Ideal S32x1 .f32) (i : Fin 32) : scale y (ix2 i 0) = kScale (y (ix2 i 0)) := by
  pointwise [scale, expo_apply, kScale]

theorem inv_apply (y : FVec Ideal S32x1 .f32) (i : Fin 32) : inv y (ix2 i 0) = kInv (y (ix2 i 0)) := by
  pointwise [inv, expo_apply, kInv]

theorem codes_apply (v : FVec Ideal S32x768 .f32) (i : Fin 32) (k : Fin 768) :
    codes v (ix3 0 i k) = codeRow (fun k => v (ix2 i k)) k := by
  unfold codeRow scaleRow
  rw [← mul_kInv (ratio_nonneg _)]
  pointwise [codes, inv_apply, ratio_apply]

theorem scaleLanes_apply (v : FVec Ideal S32x768 .f32) (i : Fin 32) (k : Fin 128) :
    scaleLanes v (ix2 i k) = scaleRow (fun k => v (ix2 i k)) := by
  unfold scaleRow
  rw [← kScale_eq (ratio_nonneg _)]
  pointwise [scaleLanes, scale_apply, ratio_apply]

end Cert.KernelIdeal.Chunk

end
-- ==== Proof.Ideal.Pieces.lean ====
/- What the body stores at a grid point, as functions of what it reads there: the codes of each of the 32 chunks, the scales and
   the sums of each of the 8 blocks of tokens. -/
module

public import proofs.«01_k».proof.Proof.Ideal.Run
public import proofs.«01_k».proof.Proof.Ideal.Chunk

@[expose] public section

set_option maxRecDepth 16384

noncomputable section

namespace Cert.KernelIdeal.Chunk

open Idealize.ShloMosaic Idealize.ShloMosaic.TcCoe Idealize.SL.Sem
open Cert.KernelIdeal Cert.KernelIdeal.Gen Cert.KernelIdeal.Hand

section Defs
variable {F : FTy → Type} [FloatOps F] [Named F]

/-- What the body reads at a grid point: the blocks of codes, the scales as 8 rows of 128, one plus the modulation. -/
structure Point (F : FTy → Type) where
  x : Vec F S1x1024x768 .fp8e4m3
  f : Vec F S1x1024x768 .bf16
  y : Vec F S1x1024x768 .fp8e5m2
  h : Vec F S1x1024x768 .fp8e5m2
  sx : FVec F S8x128 .f32
  sy : FVec F S8x128 .f32
  sh : FVec F S8x128 .f32
  w : FVec F S1x768 .f32

theorem slices_row (j : ℕ) : S8x128.Slices ![j % 8, 0] S1x128 :=
  ⟨rfl, fun a => by
    have := Nat.mod_lt j (by norm_num : 0 < 8)
    match a with
    | ⟨0, _⟩ => show j % 8 + 1 ≤ 8; omega
    | ⟨1, _⟩ => show 0 + 128 ≤ 128; omega⟩

theorem slices_sub (n : ℕ) : S128x1.Slices ![32 * (n % 4), 0] S32x1 :=
  ⟨rfl, fun a => by
    have := Nat.mod_lt n (by norm_num : 0 < 4)
    match a with
    | ⟨0, _⟩ => show 32 * (n % 4) + 32 ≤ 128; omega
    | ⟨1, _⟩ => show 0 + 1 ≤ 1; omega⟩

/-- One row of 128 scales as a column. -/
def col (M : FVec F S8x128 .f32) (j : ℕ) : FVec F S128x1 .f32 :=
  extractStridedSlice S128x1 ![0, 0] (transpose S128x128 [1, 0] (broadcastTo S128x128
    (shapeCast S1x128 (extractStridedSlice S1x128 ![j % 8, 0] M (slices_row j)) shapeCasts_S1x128_S1x128)
    broadcasts_S1x128_S128x128) transposes_S128x128_p1_0_S128x128) slices_S128x128_o0_0_S128x1

/-- The scales of a chunk. -/
def sub (M : FVec F S8x128 .f32) (n : ℕ) : FVec F S32x1 .f32 :=
  extractStridedSlice S32x1 ![32 * (n % 4), 0] (col M (n / 4)) (slices_sub n)

theorem chunk_inb (n : ℕ) : ∀ a, (![0, 32 * (n % 32), 0] : Fin 3 → ℕ) a + S1x32x768.size a ≤ S1x1024x768.size a := fun a => by
  have := Nat.mod_lt n (by norm_num : 0 < 32)
  match a with
  | ⟨0, _⟩ => show 0 + 1 ≤ 1; omega
  | ⟨1, _⟩ => show 32 * (n % 32) + 32 ≤ 1024; omega
  | ⟨2, _⟩ => show 0 + 768 ≤ 768; omega

/-- The rows of a chunk. -/
abbrev chunkRect (n : ℕ) : Rect S1x1024x768 := Rect.unit ![0, 32 * (n % 32), 0] S1x32x768.size (chunk_inb n)

namespace Point
variable (p : Point F)

def xc (n : ℕ) : FVec F S32x768 .f32 := scaled bitsLt_fp8e4m3_f32 (View.ld p.x (chunkRect n)) (sub p.sx n)
def yc (n : ℕ) : FVec F S32x768 .f32 := scaled bitsLt_fp8e5m2_f32 (View.ld p.y (chunkRect n)) (sub p.sy n)
def hc (n : ℕ) : FVec F S32x768 .f32 := scaled bitsLt_fp8e5m2_f32 (View.ld p.h (chunkRect n)) (sub p.sh n)
def fc (n : ℕ) : FVec F S32x768 .f32 := plain (View.ld p.f (chunkRect n))
/-- The gradient of the rows of chunk `n`. -/
def dxc (n : ℕ) : FVec F S32x768 .f32 := dx (p.xc n) (p.yc n) (p.hc n) p.w

/-- The sum over the four chunks of a block. -/
def sum4 (t : ℕ → FVec F S32x768 .f32) (j : ℕ) : FVec F S1x768 .f32 :=
  acc (acc (acc (acc (broadcast S1x768 (Scalar.ofBits .f32 0x00000000#32)) (t (4 * j))) (t (4 * j + 1))) (t (4 * j + 2))) (t (4 * j + 3))

/-- The three sums of a block of 128 tokens. -/
def block (j : ℕ) : FVec F S3x768 .f32 :=
  concatenate S3x768 0 [⟨S1x768, sum4 p.hc j⟩, ⟨S1x768, sum4 (fun n => mulf (p.hc n) (xhat (p.xc n))) j⟩,
    ⟨S1x768, sum4 (fun n => mulf (p.yc n) (p.fc n)) j⟩] concatenates_S1x768_S1x768_S1x768_S3x768_d0

/-- The scales of a block of 128 tokens, as a row. -/
def scales (j : ℕ) : FVec F S1x128 .f32 :=
  extractStridedSlice S1x128 ![0, 0] (transpose S128x128 [1, 0]
    (concatenate S128x128 0 [⟨S32x128, scaleLanes (p.dxc (4 * j))⟩, ⟨S32x128, scaleLanes (p.dxc (4 * j + 1))⟩,
      ⟨S32x128, scaleLanes (p.dxc (4 * j + 2))⟩, ⟨S32x128, scaleLanes (p.dxc (4 * j + 3))⟩]
      concatenates_S32x128_S32x128_S32x128_S32x128_S128x128_d0)
    transposes_S128x128_p1_0_S128x128) slices_S128x128_o0_0_S1x128

/-- The codes stored, the last chunk first. -/
def codePieces : ℕ → List (View.Piece (Elt F) S1x1024x768 .fp8e5m2)
  | 0 => []
  | n + 1 => ⟨chunkRect n, codes (p.dxc n)⟩ :: codePieces n

theorem block_inb (j : ℕ) : ∀ a, (![0, j % 8, 0, 0] : Fin 4 → ℕ) a + S1x1x3x768.size a ≤ S1x8x3x768.size a := fun a => by
  have := Nat.mod_lt j (by norm_num : 0 < 8)
  match a with
  | ⟨0, _⟩ => show 0 + 1 ≤ 1; omega
  | ⟨1, _⟩ => show j % 8 + 1 ≤ 8; omega
  | ⟨2, _⟩ => show 0 + 3 ≤ 3; omega
  | ⟨3, _⟩ => show 0 + 768 ≤ 768; omega

/-- The blocks' sums stored, the last block first. -/
def blockPieces : ℕ → List (View.Piece (Elt F) S1x8x3x768 .f32)
  | 0 => []
  | j + 1 => ⟨Rect.unit ![0, j % 8, 0, 0] S1x1x3x768.size (block_inb j), shapeCast S1x1x3x768 (p.block j) shapeCasts_S3x768_S1x1x3x768⟩
      :: blockPieces j

/-- The running total of the blocks' sums stored, the last first: each but the first reads back the one before it. -/
def totalPieces (v : View sig .tc .vmem S1x3x768 .f32) : ℕ → List (View.Piece (Elt F) S1x3x768 .f32)
  | 0 => []
  | 1 => [⟨Rect.unit ![0, 0, 0] S1x3x768.size inb_S1x3x768_S1x3x768_0_0_0, shapeCast S1x3x768 (p.block 0) shapeCasts_S3x768_S1x3x768⟩]
  | j + 2 => ⟨Rect.unit ![0, 0, 0] S1x3x768.size inb_S1x3x768_S1x3x768_0_0_0,
      shapeCast S1x3x768 (addf (shapeCast S3x768 (v.readCov (totalPieces v (j + 1))
        (Rect.unit ![0, 0, 0] S1x3x768.size inb_S1x3x768_S1x3x768_0_0_0).toLoadRect) shapeCasts_S1x3x768_S3x768) (p.block (j + 1)))
        shapeCasts_S3x768_S1x3x768⟩ :: totalPieces v (j + 1)

/-- A block's scales as the body stores them. -/
def scalePay (j : ℕ) : FVec F S1x1x128 .f32 := shapeCast S1x1x128 (p.scales j) shapeCasts_S1x128_S1x1x128

end Point

theorem row_inb (j : ℕ) : ∀ a, (![0, j % 8, 0] : Fin 3 → ℕ) a + S8x1x128.size a ≤ S8x8x128.size a := fun a => by
  have := Nat.mod_lt j (by norm_num : 0 < 8)
  match a with
  | ⟨0, _⟩ => show 0 + 8 ≤ 8; omega
  | ⟨1, _⟩ => show j % 8 + 1 ≤ 8; omega
  | ⟨2, _⟩ => show 0 + 128 ≤ 128; omega

theorem lanes_inb (j : ℕ) : ∀ a, (![0, 128 * (j % 8)] : Fin 2 → ℕ) a + S8x128.size a ≤ S8x1024.size a := fun a => by
  have := Nat.mod_lt j (by norm_num : 0 < 8)
  match a with
  | ⟨0, _⟩ => show 0 + 8 ≤ 8; omega
  | ⟨1, _⟩ => show 128 * (j % 8) + 128 ≤ 1024; omega

theorem mod_inb (j : ℕ) : ∀ a, (![0, 128 * (j % 6)] : Fin 2 → ℕ) a + S8x128.size a ≤ S8x768.size a := fun a => by
  have := Nat.mod_lt j (by norm_num : 0 < 6)
  match a with
  | ⟨0, _⟩ => show 0 + 8 ≤ 8; omega
  | ⟨1, _⟩ => show 128 * (j % 6) + 128 ≤ 768; omega

/-- Eight rows of scales laid out as blocks of 128 lanes, the last block first. -/
def rowPieces (x : Vec F S8x1024 .f32) : ℕ → List (View.Piece (Elt F) S8x8x128 .f32)
  | 0 => []
  | j + 1 => ⟨Rect.unit ![0, j % 8, 0] S8x1x128.size (row_inb j),
      shapeCast S8x1x128 (View.ld x (Rect.unit ![0, 128 * (j % 8)] S8x128.size (lanes_inb j))) shapeCasts_S8x128_S8x1x128⟩ :: rowPieces x j

/-- Eight rows of the modulation, likewise. -/
def modPieces (x : Vec F S8x768 .f32) : ℕ → List (View.Piece (Elt F) S8x8x128 .f32)
  | 0 => []
  | j + 1 => ⟨Rect.unit ![0, j % 8, 0] S8x1x128.size (row_inb j),
      shapeCast S8x1x128 (View.ld x (Rect.unit ![0, 128 * (j % 6)] S8x128.size (mod_inb j))) shapeCasts_S8x128_S8x1x128⟩ :: modPieces x j

/-- The scales of eight grid points put back into rows of 1024. -/
def outPieces (s : Vec F S8x8x128 .f32) : ℕ → List (View.Piece (Elt F) S8x1024 .f32)
  | 0 => []
  | j + 1 => ⟨Rect.unit ![0, 128 * (j % 8)] S8x128.size (lanes_inb j),
      shapeCast S8x128 (View.ld s (Rect.unit ![0, j % 8, 0] S8x1x128.size (row_inb j))) shapeCasts_S8x1x128_S8x128⟩ :: outPieces s j

theorem off_inb {i : grid0.Coords} {off : Fin 3 → ℕ} (j : ℕ) (hj : j < 8) (h : off = ![(i 0).val % 8, j, 0]) :
    ∀ a, off a + S1x1x128.size a ≤ S8x8x128.size a := fun a => by
  subst h
  have := Nat.mod_lt (i 0).val (by norm_num : 0 < 8)
  match a with
  | ⟨0, _⟩ => show (i 0).val % 8 + 1 ≤ 8; omega
  | ⟨1, _⟩ => show j + 1 ≤ 8; omega
  | ⟨2, _⟩ => show 0 + 128 ≤ 128; omega

/-- The rows of scales that a point stores, the last block first. -/
def scalePieces (p : Point F) (i : grid0.Coords) : List (View.Piece (Elt F) S8x8x128 .f32) :=
  [⟨Rect.unit (k0_off9 i) S1x1x128.size (off_inb 7 (by norm_num) (k0_off9_eq i)), p.scalePay 7⟩,
    ⟨Rect.unit (k0_off8 i) S1x1x128.size (off_inb 6 (by norm_num) (k0_off8_eq i)), p.scalePay 6⟩,
    ⟨Rect.unit (k0_off7 i) S1x1x128.size (off_inb 5 (by norm_num) (k0_off7_eq i)), p.scalePay 5⟩,
    ⟨Rect.unit (k0_off6 i) S1x1x128.size (off_inb 4 (by norm_num) (k0_off6_eq i)), p.scalePay 4⟩,
    ⟨Rect.unit (k0_off5 i) S1x1x128.size (off_inb 3 (by norm_num) (k0_off5_eq i)), p.scalePay 3⟩,
    ⟨Rect.unit (k0_off4 i) S1x1x128.size (off_inb 2 (by norm_num) (k0_off4_eq i)), p.scalePay 2⟩,
    ⟨Rect.unit (k0_off3 i) S1x1x128.size (off_inb 1 (by norm_num) (k0_off3_eq i)), p.scalePay 1⟩,
    ⟨Rect.unit (k0_off2 i) S1x1x128.size (off_inb 0 (by norm_num) (k0_off2_eq i)), p.scalePay 0⟩]

theorem inb1 (i : grid0.Coords) : ∀ a, k0_off1 i a + S1x8x128.size a ≤ S8x8x128.size a := fun a => by
  rw [k0_off1_eq]
  have := Nat.mod_lt (i 0).val (by norm_num : 0 < 8)
  match a with
  | ⟨0, _⟩ => show (i 0).val % 8 + 1 ≤ 8; omega
  | ⟨1, _⟩ => show 0 + 8 ≤ 8; omega
  | ⟨2, _⟩ => show 0 + 128 ≤ 128; omega

/-- The eight rows of 128 lanes that a point reads of a buffer of eight rows. -/
def rowOf (s : Vec F S8x8x128 .f32) (i : grid0.Coords) : FVec F S8x128 .f32 :=
  shapeCast S8x128 (View.ld s (Rect.unit (k0_off1 i) S1x8x128.size (inb1 i))) shapeCasts_S1x8x128_S8x128

/-- One plus the modulation, from its eight rows of lanes (of which the first six count). -/
def oneMod (M : FVec F S8x128 .f32) : FVec F S1x768 .f32 :=
  addf (broadcast S1x768 (Scalar.ofBits .f32 0x3F800000#32)) (concatenate S1x768 1 [⟨S1x128, extractStridedSlice S1x128 ![0, 0] M slices_S8x128_o0_0_S1x128⟩,
    ⟨S1x128, extractStridedSlice S1x128 ![1, 0] M slices_S8x128_o1_0_S1x128⟩, ⟨S1x128, extractStridedSlice S1x128 ![2, 0] M slices_S8x128_o2_0_S1x128⟩,
    ⟨S1x128, extractStridedSlice S1x128 ![3, 0] M slices_S8x128_o3_0_S1x128⟩, ⟨S1x128, extractStridedSlice S1x128 ![4, 0] M slices_S8x128_o4_0_S1x128⟩,
    ⟨S1x128, extractStridedSlice S1x128 ![5, 0] M slices_S8x128_o5_0_S1x128⟩]
    concatenates_S1x128_S1x128_S1x128_S1x128_S1x128_S1x128_S1x768_d1)

end Defs

section Match
variable {F : FTy → Type} [FloatOps F] [Named F]
  (c : Dev nD) (i : grid0.Coords)
  (arg1 : Memref sig .tc .vmem S8x1024 .f32) (harg1 : arg1.IsWhole) (arg2 : Memref sig .tc .vmem S8x1024 .f32)
  (harg2 : arg2.IsWhole) (arg3 : Memref sig .tc .vmem S8x1024 .f32) (harg3 : arg3.IsWhole)
  (arg4 : Memref sig .tc .vmem S8x768 .f32) (harg4 : arg4.IsWhole) (arg5 : Memref sig .tc .vmem S1x1024x768 .fp8e4m3)
  (harg5 : arg5.IsWhole) (arg6 : Memref sig .tc .vmem S1x1024x768 .bf16) (harg6 : arg6.IsWhole)
  (arg7 : Memref sig .tc .vmem S1x1024x768 .fp8e5m2) (harg7 : arg7.IsWhole) (arg8 : Memref sig .tc .vmem S1x1024x768 .fp8e5m2)
  (harg8 : arg8.IsWhole) (arg9 : Memref sig .tc .vmem S1x3x768 .f32) (harg9 : arg9.IsWhole)
  (arg10 : Memref sig .tc .vmem S1x8x3x768 .f32) (harg10 : arg10.IsWhole) (arg11 : Memref sig .tc .vmem S1x1024x768 .fp8e5m2)
  (harg11 : arg11.IsWhole) (arg12 : Memref sig .tc .vmem S8x1024 .f32) (harg12 : arg12.IsWhole)
  (arg13 : Memref sig .tc .vmem S8x8x128 .f32) (harg13 : arg13.IsWhole) (arg14 : Memref sig .tc .vmem S8x8x128 .f32)
  (harg14 : arg14.IsWhole) (arg15 : Memref sig .tc .vmem S8x8x128 .f32) (harg15 : arg15.IsWhole)
  (arg16 : Memref sig .tc .vmem S8x8x128 .f32) (harg16 : arg16.IsWhole) (arg17 : Memref sig .tc .vmem S8x8x128 .f32)
  (harg17 : arg17.IsWhole)
  (x1 : Vec F S8x1024 .f32) (x2 : Vec F S8x1024 .f32) (x3 : Vec F S8x1024 .f32) (x4 : Vec F S8x768 .f32)
  (x5 : Vec F S1x1024x768 .fp8e4m3) (x6 : Vec F S1x1024x768 .bf16) (x7 : Vec F S1x1024x768 .fp8e5m2)
  (x8 : Vec F S1x1024x768 .fp8e5m2) (s13 : Vec F S8x8x128 .f32) (s14 : Vec F S8x8x128 .f32) (s15 : Vec F S8x8x128 .f32)
  (s16 : Vec F S8x8x128 .f32) (s17 : Vec F S8x8x128 .f32)

/-- What the body reads, as the run names it. -/
abbrev runPoint₀ : Point F where
  x := arg5.view.read (Elt F) (harg5.unread x5)
  f := arg6.view.read (Elt F) (harg6.unread x6)
  y := arg7.view.read (Elt F) (harg7.unread x7)
  h := arg8.view.read (Elt F) (harg8.unread x8)
  sx := kernelRun.sl.v144 c i arg1 harg1 arg13 x1
  sy := kernelRun.sl.v147 c i arg2 harg2 arg14 x2
  sh := kernelRun.sl.v150 c i arg3 harg3 arg15 x3
  w := kernelRun.sl.v141 c i arg4 harg4 arg16 harg16 x4 s16

/-- What the body reads. -/
abbrev runPoint : Point F where
  x := x5
  f := x6
  y := x7
  h := x8
  sx := rowOf (arg13.view.read (Elt F) (arg13.view.writes (Elt F) arg13.view.junk (rowPieces x1 8))) i
  sy := rowOf (arg14.view.read (Elt F) (arg14.view.writes (Elt F) arg14.view.junk (rowPieces x2 8))) i
  sh := rowOf (arg15.view.read (Elt F) (arg15.view.writes (Elt F) arg15.view.junk (rowPieces x3 8))) i
  w := oneMod (rowOf (arg16.view.read (Elt F) (arg16.view.writes (Elt F) (harg16.unread s16) (modPieces x4 6))) i)

end Match

end Cert.KernelIdeal.Chunk

end
-- ==== Proof.Ideal.Ref.lean ====
/- The reference's four results, read at an index. -/
module

public import proofs.«01_k».proof.Proof.Gen.ReferenceIdeal.Skeleton
public import proofs.«01_k».proof.Proof.Ideal.Scale
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Spec

theorem pay5_apply (x : FVec Ideal S112x1024x768 .fp8e4m3) (s : FVec Ideal S112x1024 .f32) (b : Fin 112) (t : Fin 1024) (k : Fin 768) :
    k0_pay5 (F := Ideal) x s (ix3 b t k) = center (fun k => x (ix3 b t k) * s (ix2 b t)) k := by
  pointwise [k0_pay5, center, mean]

theorem pay6_apply (x : FVec Ideal S112x1024x768 .fp8e4m3) (s : FVec Ideal S112x1024 .f32) (b : Fin 112) (t : Fin 1024) (u : Fin 1) :
    k0_pay6 (F := Ideal) x s (ix3 b t u) = rstd (fun k => x (ix3 b t k) * s (ix2 b t)) := by
  pointwise [k0_pay6, rstd, mean, pay5_apply]

theorem pay7_apply (x : FVec Ideal S112x1024x768 .fp8e4m3) (s : FVec Ideal S112x1024 .f32) (b : Fin 112) (t : Fin 1024) (k : Fin 768) :
    k0_pay7 (F := Ideal) x s (ix3 b t k) = xhat (fun k => x (ix3 b t k) * s (ix2 b t)) k := by
  pointwise [k0_pay7, xhat, pay5_apply, pay6_apply]

theorem pay12_apply (dy dh : FVec Ideal S112x1024x768 .f32) (x : FVec Ideal S112x1024x768 .fp8e4m3) (s : FVec Ideal S112x1024 .f32)
    (ms : FVec Ideal S112x768 .f32) (b : Fin 112) (t : Fin 1024) (k : Fin 768) :
    k0_pay12 (F := Ideal) dy dh (k0_pay6 (F := Ideal) x s) (k0_pay7 (F := Ideal) x s) ms (ix3 b t k)
      = dxRow (fun k => x (ix3 b t k) * s (ix2 b t)) (fun k => dy (ix3 b t k)) (fun k => dh (ix3 b t k))
          (fun k => 1 + ms (ix2 b k)) k := by
  pointwise [k0_pay12, pay6_apply, pay7_apply, dxRow, mean, gRow]

theorem pay13_apply (dy dh : FVec Ideal S112x1024x768 .f32) (x : FVec Ideal S112x1024x768 .fp8e4m3) (s : FVec Ideal S112x1024 .f32)
    (ms : FVec Ideal S112x768 .f32) (b : Fin 112) (t : Fin 1024) :
    k0_pay13 (F := Ideal) dy dh (k0_pay6 (F := Ideal) x s) (k0_pay7 (F := Ideal) x s) ms (ix2 b t)
      = amax (dxRow (fun k => x (ix3 b t k) * s (ix2 b t)) (fun k => dy (ix3 b t k)) (fun k => dh (ix3 b t k))
          (fun k => 1 + ms (ix2 b k))) := by
  pointwise [k0_pay13, pay12_apply, amax]

theorem pay1_apply (v : FVec Ideal S112x1024 .f32) (b : Fin 112) (t : Fin 1024)  :
    k0_pay1 (F := Ideal) v (ix2 b t) = scaleOf (v (ix2 b t) * Ideal.ofBits .f32 0x37924925#32) := by
  rw [← refScale_eq]
  pointwise [k0_pay1]

theorem pay2_apply (d : FVec Ideal S112x1024x768 .f32) (v : FVec Ideal S112x1024 .f32) (b : Fin 112) (t : Fin 1024) (k : Fin 768) :
    k0_pay2 (F := Ideal) d v (ix3 b t k) = min (Ideal.ofBits .f32 0x47600000#32) (max (Ideal.ofBits .f32 0xC7600000#32)
      (Ideal.div (d (ix3 b t k)) (scaleOf (v (ix2 b t) * Ideal.ofBits .f32 0x37924925#32)))) := by
  pointwise [k0_pay2, pay1_apply]

/-- The token at place `n` of block `j`. -/
def tok (j : Fin 8) (n : Fin 128) : Fin 1024 := ⟨(j : ℕ) * 128 + (n : ℕ), by omega⟩

theorem pay9_apply (x : FVec Ideal S112x1024x768 .fp8e4m3) (s : FVec Ideal S112x1024 .f32) (dh : FVec Ideal S112x1024x768 .fp8e5m2)
    (hs : FVec Ideal S112x1024 .f32) (b : Fin 112) (j : Fin 8) (n : Fin 128) (k : Fin 768) :
    k0_pay9 (F := Ideal) x s dh hs (ix4 b j n k)
      = (dh (ix3 b (tok j n) k) * hs (ix2 b (tok j n)))
          * xhat (fun k => x (ix3 b (tok j n) k) * s (ix2 b (tok j n))) k := by
  pointwise [k0_pay9, k0_pay4, pay7_apply, tok]

theorem pay8_apply (dh : FVec Ideal S112x1024x768 .fp8e5m2) (hs : FVec Ideal S112x1024 .f32) (b : Fin 112) (j : Fin 8) (k : Fin 768) :
    k0_pay8 (F := Ideal) dh hs (ix3 b j k) = ∑ n : Fin 128, dh (ix3 b (tok j n) k) * hs (ix2 b (tok j n)) := by
  pointwise [k0_pay8, k0_pay4, tok]

theorem pay10_apply (dy : FVec Ideal S112x1024x768 .f32) (x : FVec Ideal S112x1024x768 .fp8e4m3) (s : FVec Ideal S112x1024 .f32)
    (dh : FVec Ideal S112x1024x768 .fp8e5m2) (hs : FVec Ideal S112x1024 .f32) (f : FVec Ideal S112x1024x768 .bf16)
    (b : Fin 112) (j : Fin 8) (n : Fin 3) (k : Fin 768) :
    k0_pay10 (F := Ideal) dy (k0_pay8 (F := Ideal) dh hs) (k0_pay9 (F := Ideal) x s dh hs) f (ix4 b j n k)
      = ∑ i : Fin 128, term (fun k => x (ix3 b (tok j i) k) * s (ix2 b (tok j i))) (fun k => dy (ix3 b (tok j i) k))
          (fun k => dh (ix3 b (tok j i) k) * hs (ix2 b (tok j i))) (fun k => f (ix3 b (tok j i) k)) n k := by
  have h : k0_pay10 (F := Ideal) dy (k0_pay8 (F := Ideal) dh hs) (k0_pay9 (F := Ideal) x s dh hs) f (ix4 b j n k)
      = if (n : ℕ) < 1 then k0_pay8 (F := Ideal) dh hs (ix3 b j k)
        else if (n : ℕ) - 1 < 1 then ∑ i, k0_pay9 (F := Ideal) x s dh hs (ix4 b j i k)
        else ∑ i, dy (ix3 b (tok j i) k) * f (ix3 b (tok j i) k) := by
    pointwise [k0_pay10, tok]
    rfl
  rw [h]
  rcases n with ⟨n, hn⟩
  obtain rfl | rfl | rfl : n = 0 ∨ n = 1 ∨ n = 2 := by omega
  all_goals simp [term, pay8_apply, pay9_apply]

theorem pay11_apply (dy : FVec Ideal S112x1024x768 .f32) (v35 : FVec Ideal S112x8x768 .f32) (v37 : FVec Ideal S112x8x128x768 .f32)
    (f : FVec Ideal S112x1024x768 .bf16) (b : Fin 112) (n : Fin 3) (k : Fin 768) :
    k0_pay11 (F := Ideal) dy v35 v37 f (ix3 b n k) = ∑ j : Fin 8, k0_pay10 (F := Ideal) dy v35 v37 f (ix4 b j n k) := by
  pointwise [k0_pay11]

end Cert.ReferenceIdeal.Hand

end
-- ==== Proof.Ideal.Read.lean ====
/- What the body's pieces hold over the extended reals, index by index, in terms of the rows that a grid point reads. -/
module

public import proofs.«01_k».proof.Proof.Ideal.Pieces
public import proofs.«01_k».proof.Proof.Ideal.Ref
public import Idealize.ShloMosaic.Lib.Pipeline.Value
public import Idealize.ShloMosaic.Lib.WritesUnit
public import Idealize.ShloMosaic.Lib.Pipeline.ValueKit.Tiles

@[expose] public section

set_option maxRecDepth 16384

noncomputable section

namespace Cert.KernelIdeal.Chunk

open Idealize.ShloMosaic Idealize.ShloMosaic.TcCoe Idealize.SL.Sem
open Cert.KernelIdeal Cert.KernelIdeal.Gen Cert.KernelIdeal.Hand Cert.Spec
open Cert.ReferenceIdeal.Hand (tok)

/-- Token `i` of chunk `n`. -/
def tk (n : ℕ) (i : Fin 32) : Fin 1024 := ⟨32 * (n % 32) + i, by omega⟩

theorem col_apply (M : FVec Ideal S8x128 .f32) (j : ℕ) (l : Fin 128) (u : Fin 1) :
    col M j (ix2 l u) = M (ix2 ⟨j % 8, by omega⟩ l) := by
  pointwise [col]

theorem sub_apply (M : FVec Ideal S8x128 .f32) (n : ℕ) (i : Fin 32) (u : Fin 1) :
    sub M n (ix2 i u) = M (ix2 ⟨n / 4 % 8, by omega⟩ ⟨32 * (n % 4) + i, by omega⟩) := by
  pointwise [sub, col_apply]

theorem chunk_apply {e : EltTy} (x : Vec Ideal S1x1024x768 e) (n : ℕ) (i : Fin 32) (k : Fin 768) :
    View.ld x (chunkRect n) (ix3 0 i k) = x (ix3 0 (tk n i) k) := by
  refine View.ld_unit_apply_of x _ _ _ _ _ fun a => ?_
  match a with
  | ⟨0, _⟩ => rfl
  | ⟨1, _⟩ => rfl
  | ⟨2, _⟩ => show (k : ℕ) = 0 + k; omega

/-- The values `P (n - 1), …, P 0`. -/
def listOf {α : Type} (P : ℕ → α) : ℕ → List α
  | 0 => []
  | n + 1 => P n :: listOf P n

theorem mem_listOf {α : Type} (P : ℕ → α) (q : α) : ∀ n, q ∈ listOf P n ↔ ∃ m < n, q = P m
  | 0 => by simp [listOf]
  | n + 1 => by
    rw [listOf, List.mem_cons, mem_listOf P q n]
    constructor
    · rintro (h | ⟨m, hm, h⟩)
      · exact ⟨n, by omega, h⟩
      · exact ⟨m, by omega, h⟩
    · rintro ⟨m, hm, h⟩
      by_cases e : m = n
      · exact .inl (e ▸ h)
      · exact .inr ⟨m, by omega, h⟩

section ListOf
variable {S : Shape} {e : EltTy} (off : ℕ → Fin S.rank → ℕ) (size : Fin S.rank → ℕ) (inb : ∀ m a, off m a + size a ≤ S.size a)
  (w : ∀ m, (Rect.unit (off m) size (inb m)).shape.Idx → Elt Ideal e) (G : S.Idx → Elt Ideal e) (n : ℕ)

/-- The pieces at a list of places, with their payloads. -/
abbrev pieceAt (m : ℕ) : View.Piece (Elt Ideal) S e := ⟨Rect.unit (off m) size (inb m), w m⟩

theorem cover_listOf (y : S.Idx) (m : ℕ) (hm : m < n) (hy : ∀ a, off m a ≤ (y a : ℕ) ∧ (y a : ℕ) < off m a + size a) :
    ∃ p ∈ listOf (pieceAt off size inb w) n, y ∈ p.1.set :=
  ⟨pieceAt off size inb w m, (mem_listOf _ _ n).mpr ⟨m, hm, rfl⟩, (Rect.mem_set_unit (inb := inb m)).mpr hy⟩

/-- Stores that all store the same function's values leave that function where one of them stores. -/
theorem canon_listOf (h : ∀ m < n, ∀ (x : (Rect.unit (off m) size (inb m)).shape.Idx) (y : S.Idx),
      (∀ a, (y a : ℕ) = off m a + x a) → w m x = G y) (y : S.Idx) (m : ℕ) (hm : m < n)
    (hy : ∀ a, off m a ≤ (y a : ℕ) ∧ (y a : ℕ) < off m a + size a) :
    View.canon (listOf (pieceAt off size inb w) n) y = G y := by
  refine View.canon_apply_of_pieces G _ (fun q hq => ?_) y (cover_listOf off size inb w n y m hm hy)
  obtain ⟨l, hl, rfl⟩ := (mem_listOf _ _ n).mp hq
  exact fun x => h l hl x _ fun a => Rect.idx_unit_val (off l) size (inb l) x a

theorem read_listOf {κ : Kind} {sp : Space} (v : View sig κ sp S e) (f : v.ty.Contents (Elt Ideal))
    (h : ∀ m < n, ∀ (x : (Rect.unit (off m) size (inb m)).shape.Idx) (y : S.Idx),
      (∀ a, (y a : ℕ) = off m a + x a) → w m x = G y) (y : S.Idx) (m : ℕ) (hm : m < n)
    (hy : ∀ a, off m a ≤ (y a : ℕ) ∧ (y a : ℕ) < off m a + size a) :
    v.read (Elt Ideal) (v.writes (Elt Ideal) f (listOf (pieceAt off size inb w) n)) y = G y :=
  (View.read_writes_apply_eq_canon v f y _ (cover_listOf off size inb w n y m hm hy)).trans
    (canon_listOf off size inb w G n h y m hm hy)

end ListOf

/-- The rows of scales and the modulation that a point's reads hold. -/
structure Holds (p : Point Ideal) (xs ys hs : Fin 1024 → EReal) (w : Row) : Prop where
  sx : ∀ j l, p.sx (ix2 j l) = xs (tok j l)
  sy : ∀ j l, p.sy (ix2 j l) = ys (tok j l)
  sh : ∀ j l, p.sh (ix2 j l) = hs (tok j l)
  w : ∀ k, p.w (ix2 0 k) = w k

theorem tok_tk (n : ℕ) (hn : n < 32) (i : Fin 32) :
    tok ⟨n / 4 % 8, by omega⟩ ⟨32 * (n % 4) + i, by omega⟩ = tk n i := Fin.ext (by simp only [tok, tk]; omega)

namespace Point
variable {p : Point Ideal} {xs ys hs : Fin 1024 → EReal} {w : Row} (H : Holds p xs ys hs w)

variable (p) in
/-- The rows that the point computes with. -/
def xRow (xs : Fin 1024 → EReal) (t : Fin 1024) : Row := fun k => p.x (ix3 0 t k) * xs t
variable (p) in
def yRow (ys : Fin 1024 → EReal) (t : Fin 1024) : Row := fun k => p.y (ix3 0 t k) * ys t
variable (p) in
def hRow (hs : Fin 1024 → EReal) (t : Fin 1024) : Row := fun k => p.h (ix3 0 t k) * hs t
variable (p) in
def fRow (t : Fin 1024) : Row := fun k => p.f (ix3 0 t k)

include H

theorem xc_apply (n : ℕ) (hn : n < 32) (i : Fin 32) (k : Fin 768) : p.xc n (ix2 i k) = p.xRow xs (tk n i) k := by
  rw [xc, scaled_apply, chunk_apply, sub_apply, H.sx, tok_tk n hn, xRow]

theorem yc_apply (n : ℕ) (hn : n < 32) (i : Fin 32) (k : Fin 768) : p.yc n (ix2 i k) = p.yRow ys (tk n i) k := by
  rw [yc, scaled_apply, chunk_apply, sub_apply, H.sy, tok_tk n hn, yRow]

theorem hc_apply (n : ℕ) (hn : n < 32) (i : Fin 32) (k : Fin 768) : p.hc n (ix2 i k) = p.hRow hs (tk n i) k := by
  rw [hc, scaled_apply, chunk_apply, sub_apply, H.sh, tok_tk n hn, hRow]

omit H in
theorem fc_apply (n : ℕ) (i : Fin 32) (k : Fin 768) : p.fc n (ix2 i k) = p.fRow (tk n i) k := by
  rw [fc, plain_apply, chunk_apply, fRow]

/-- The gradient of a chunk's row is that of its token. -/
theorem dxc_apply (n : ℕ) (hn : n < 32) (i : Fin 32) (k : Fin 768) :
    p.dxc n (ix2 i k) = dxRow (p.xRow xs (tk n i)) (p.yRow ys (tk n i)) (p.hRow hs (tk n i)) w k := by
  rw [dxc, dx_apply]
  simp only [xc_apply H n hn, yc_apply H n hn, hc_apply H n hn, H.w]

theorem codes_dxc (n : ℕ) (hn : n < 32) (i : Fin 32) (k : Fin 768) :
    codes (p.dxc n) (ix3 0 i k)
      = codeRow (dxRow (p.xRow xs (tk n i)) (p.yRow ys (tk n i)) (p.hRow hs (tk n i)) w) k := by
  rw [codes_apply]
  simp only [dxc_apply H n hn]

theorem scales_dxc (n : ℕ) (hn : n < 32) (i : Fin 32) (k : Fin 128) :
    scaleLanes (p.dxc n) (ix2 i k)
      = scaleRow (dxRow (p.xRow xs (tk n i)) (p.yRow ys (tk n i)) (p.hRow hs (tk n i)) w) := by
  rw [scaleLanes_apply]
  simp only [dxc_apply H n hn]

omit H in
/-- A sum over the four chunks of a block is the sum over the block's tokens. -/
theorem sum4_apply (t : ℕ → FVec Ideal S32x768 .f32) (g : Fin 1024 → Row)
    (ht : ∀ n, n < 32 → ∀ i k, t n (ix2 i k) = g (tk n i) k) (j : Fin 8) (k : Fin 768) :
    sum4 t j (ix2 0 k) = ∑ l : Fin 128, g (tok j l) k := by
  have hj := j.isLt
  rw [sum4]
  simp only [acc_apply, ht _ (show 4 * (j : ℕ) < 32 by omega), ht _ (show 4 * (j : ℕ) + 1 < 32 by omega),
    ht _ (show 4 * (j : ℕ) + 2 < 32 by omega), ht _ (show 4 * (j : ℕ) + 3 < 32 by omega)]
  rw [Fin.sum_univ_tiles 4 32 rfl (fun l => g (tok j l) k)]
  simp only [Fin.sum_univ_four]
  have e : ∀ (q : ℕ) (hq : q < 4) (x : Fin 32), tk (4 * (j : ℕ) + q) x = tok j ⟨q * 32 + x, by omega⟩ := fun q hq x =>
    Fin.ext (by simp only [tok, tk]; omega)
  pointwise
  simp only [e 1 (by norm_num), e 2 (by norm_num), e 3 (by norm_num), show ∀ x, tk (4 * (j : ℕ)) x = _ from e 0 (by norm_num)]
  rfl

variable (p) in
/-- The gradient of a token. -/
def dRow (xs ys hs : Fin 1024 → EReal) (w : Row) (t : Fin 1024) : Row := dxRow (p.xRow xs t) (p.yRow ys t) (p.hRow hs t) w

/-- The scales of a block. -/
theorem scales_apply (j : Fin 8) (l : Fin 128) :
    p.scales j (ix2 0 l) = scaleRow (p.dRow xs ys hs w (tok j l)) := by
  have hj := j.isLt
  have e : ∀ (q : ℕ) (hq : q < 4) (x : Fin 32) (hx : (l : ℕ) = q * 32 + x), tk (4 * (j : ℕ) + q) x = tok j l := fun q hq x hx =>
    Fin.ext (by simp only [tok, tk]; omega)
  pointwise [scales]
  by_cases h1 : (l : ℕ) < 32
  · rw [dif_pos h1, scales_dxc H _ (by omega), show tk (4 * (j : ℕ)) _ = _ from e 0 (by norm_num) _ (by simp only []; omega), dRow]
  rw [dif_neg h1]
  by_cases h2 : (l : ℕ) - 32 < 32
  · rw [dif_pos h2, scales_dxc H _ (by omega), e 1 (by norm_num) _ (by simp only []; omega), dRow]
  rw [dif_neg h2]
  by_cases h3 : (l : ℕ) - 32 - 32 < 32
  · rw [dif_pos h3, scales_dxc H _ (by omega), e 2 (by norm_num) _ (by simp only []; omega), dRow]
  rw [dif_neg h3]
  rw [scales_dxc H _ (by omega), e 3 (by norm_num) _ (by simp only []; omega), dRow]

variable (p) in
/-- The sums of a block of tokens. -/
def sums (xs ys hs : Fin 1024 → EReal) (j : Fin 8) (n : Fin 3) : Row := fun k =>
  ∑ l : Fin 128, term (p.xRow xs (tok j l)) (p.yRow ys (tok j l)) (p.hRow hs (tok j l)) (p.fRow (tok j l)) n k

theorem block_apply (j : Fin 8) (n : Fin 3) (k : Fin 768) : p.block j (ix2 n k) = p.sums xs ys hs j n k := by
  have h0 := sum4_apply p.hc (p.hRow hs) (fun n hn i k => hc_apply H n hn i k) j k
  have h1 := sum4_apply (fun n => mulf (p.hc n) (Chunk.xhat (p.xc n))) (fun t k => p.hRow hs t k * Spec.xhat (p.xRow xs t) k)
    (fun n hn i k => by
      show p.hc n (ix2 i k) * Chunk.xhat (p.xc n) (ix2 i k) = _
      rw [xhat_apply, hc_apply H n hn]; simp only [xc_apply H n hn]) j k
  have h2 := sum4_apply (fun n => mulf (p.yc n) (p.fc n)) (fun t k => p.yRow ys t k * p.fRow t k)
    (fun n hn i k => by
      show p.yc n (ix2 i k) * p.fc n (ix2 i k) = _
      rw [yc_apply H n hn, fc_apply n]) j k
  fin_cases n
  · pointwise [block, sums, term]; exact h0
  · pointwise [block, sums, term]; exact h1
  · pointwise [block, sums, term]; exact h2

omit H in
theorem codePieces_eq (p : Point Ideal) : ∀ n, p.codePieces n
    = listOf (pieceAt (S := S1x1024x768) (e := .fp8e5m2) (fun n => ![0, 32 * (n % 32), 0]) S1x32x768.size chunk_inb fun n => codes (p.dxc n)) n
  | 0 => rfl
  | n + 1 => by rw [codePieces, listOf, codePieces_eq p n]

/-- The codes stored. -/
theorem read_codes (v : View sig .tc .vmem S1x1024x768 .fp8e5m2) (f : v.ty.Contents (Elt Ideal)) (t : Fin 1024) (k : Fin 768) :
    v.read (Elt Ideal) (v.writes (Elt Ideal) f (p.codePieces 32)) (ix3 0 t k) = codeRow (p.dRow xs ys hs w t) k := by
  rw [codePieces_eq]
  refine read_listOf (S := S1x1024x768) (e := .fp8e5m2) _ _ _ _ (fun y => codeRow (p.dRow xs ys hs w (y 1)) (y 2)) 32 v f
    (fun m hm (x : S1x32x768.Idx) y hy => ?_) _ (t / 32) (by omega) fun a => ?_
  · have h1 : (y 1 : ℕ) = 32 * (m % 32) + x 1 := hy 1
    have h2 : (y 2 : ℕ) = 0 + x 2 := hy 2
    idx_vars x
    have e1 : y 1 = tk m x1 := Fin.ext h1
    have e2 : y 2 = x2 := Fin.ext (by simpa using h2)
    rw [e1, e2, Subsingleton.elim x0 0]
    exact codes_dxc H m hm x1 x2
  · match a with
    | ⟨0, _⟩ => show 0 ≤ 0 ∧ 0 < 0 + 1; omega
    | ⟨1, _⟩ => show 32 * ((t : ℕ) / 32 % 32) ≤ t ∧ (t : ℕ) < 32 * ((t : ℕ) / 32 % 32) + 32; omega
    | ⟨2, _⟩ => show 0 ≤ (k : ℕ) ∧ (k : ℕ) < 0 + 768; omega

omit H in
theorem blockPieces_eq (p : Point Ideal) : ∀ n, p.blockPieces n
    = listOf (pieceAt (S := S1x8x3x768) (e := .f32) (fun n => ![0, n % 8, 0, 0]) S1x1x3x768.size block_inb
      fun n => shapeCast S1x1x3x768 (p.block n) shapeCasts_S3x768_S1x1x3x768) n
  | 0 => rfl
  | n + 1 => by rw [blockPieces, listOf, blockPieces_eq p n]

/-- The blocks' sums stored. -/
theorem read_blocks (v : View sig .tc .vmem S1x8x3x768 .f32) (f : v.ty.Contents (Elt Ideal)) (j : Fin 8) (n : Fin 3) (k : Fin 768) :
    v.read (Elt Ideal) (v.writes (Elt Ideal) f (p.blockPieces 8)) (ix4 0 j n k) = p.sums xs ys hs j n k := by
  rw [blockPieces_eq]
  refine read_listOf (S := S1x8x3x768) (e := .f32) _ _ _ _ (fun y => p.sums xs ys hs (y 1) (y 2) (y 3)) 8 v f
    (fun m hm (x : S1x1x3x768.Idx) y hy => ?_) _ j (by omega) fun a => ?_
  · have h1 : (y 1 : ℕ) = m % 8 + x 1 := hy 1
    have h2 : (y 2 : ℕ) = 0 + x 2 := hy 2
    have h3 : (y 3 : ℕ) = 0 + x 3 := hy 3
    idx_vars x
    obtain rfl : x1 = (0 : Fin 1) := Subsingleton.elim _ _
    have e1 : y 1 = (⟨m, hm⟩ : Fin 8) := Fin.ext (by rw [h1]; show m % 8 + 0 = m; omega)
    have e2 : y 2 = x2 := Fin.ext (by simpa using h2)
    have e3 : y 3 = x3 := Fin.ext (by simpa using h3)
    rw [e1, e2, e3, Subsingleton.elim x0 0, ← block_apply H]
    pointwise
  · match a with
    | ⟨0, _⟩ => show 0 ≤ 0 ∧ 0 < 0 + 1; omega
    | ⟨1, _⟩ => show (j : ℕ) % 8 ≤ j ∧ (j : ℕ) < (j : ℕ) % 8 + 1; omega
    | ⟨2, _⟩ => show 0 ≤ (n : ℕ) ∧ (n : ℕ) < 0 + 3; omega
    | ⟨3, _⟩ => show 0 ≤ (k : ℕ) ∧ (k : ℕ) < 0 + 768; omega

omit H in
theorem cover_totals (p : Point Ideal) (v : View sig .tc .vmem S1x3x768 .f32) (j : ℕ) (y : S1x3x768.Idx) :
    ∃ q ∈ p.totalPieces v (j + 1), y ∈ q.1.set := by
  cases j with
  | zero => exact ⟨_, List.mem_cons_self, View.mem_set_unit_zero (S := S1x3x768) (funext fun a => by fin_cases a <;> rfl) inb_S1x3x768_S1x3x768_0_0_0 y⟩
  | succ j => exact ⟨_, List.mem_cons_self, View.mem_set_unit_zero (S := S1x3x768) (funext fun a => by fin_cases a <;> rfl) inb_S1x3x768_S1x3x768_0_0_0 y⟩

omit H in
/-- The running total of the blocks' sums. -/
theorem canon_totals (p : Point Ideal) (v : View sig .tc .vmem S1x3x768 .f32) (n : Fin 3) (k : Fin 768) :
    ∀ j : ℕ, View.canon (p.totalPieces v (j + 1)) (ix3 0 n k) = ∑ i ∈ Finset.range (j + 1), p.block i (ix2 n k)
  | 0 => by
    rw [totalPieces, View.canon_cons_unit_lit _ _ _ (by decide)]
    pointwise
    simp
  | j + 1 => by
    rw [totalPieces, View.canon_cons_unit_lit _ _ _ (by decide), Finset.sum_range_succ, ← canon_totals p v n k j,
      View.readCov_eq_canon_ld v _ _ (cover_totals p v j), View.ld_unit_lit _ _ (by decide)]
    pointwise

theorem read_totals (v : View sig .tc .vmem S1x3x768 .f32) (f : v.ty.Contents (Elt Ideal)) (n : Fin 3) (k : Fin 768) :
    v.read (Elt Ideal) (v.writes (Elt Ideal) f (p.totalPieces v 8)) (ix3 0 n k) = ∑ j : Fin 8, p.sums xs ys hs j n k := by
  rw [View.read_writes_apply_eq_canon v f _ _ (cover_totals p v 7 _), canon_totals p v n k 7, Finset.sum_range]
  exact Finset.sum_congr rfl fun j _ => block_apply H j n k

end Point

/-- Eight rows laid out as blocks of lanes, read back. -/
theorem rowPieces_eq (x : Vec Ideal S8x1024 .f32) : ∀ n, rowPieces x n
    = listOf (pieceAt (S := S8x8x128) (e := .f32) (fun j => ![0, j % 8, 0]) S8x1x128.size row_inb
      fun j => shapeCast S8x1x128 (View.ld x (Rect.unit ![0, 128 * (j % 8)] S8x128.size (lanes_inb j))) shapeCasts_S8x128_S8x1x128) n
  | 0 => rfl
  | n + 1 => by rw [rowPieces, listOf, rowPieces_eq x n]

theorem modPieces_eq (x : Vec Ideal S8x768 .f32) : ∀ n, modPieces x n
    = listOf (pieceAt (S := S8x8x128) (e := .f32) (fun j => ![0, j % 8, 0]) S8x1x128.size row_inb
      fun j => shapeCast S8x1x128 (View.ld x (Rect.unit ![0, 128 * (j % 6)] S8x128.size (mod_inb j))) shapeCasts_S8x128_S8x1x128) n
  | 0 => rfl
  | n + 1 => by rw [modPieces, listOf, modPieces_eq x n]

theorem outPieces_eq (s : Vec Ideal S8x8x128 .f32) : ∀ n, outPieces s n
    = listOf (pieceAt (S := S8x1024) (e := .f32) (fun j => ![0, 128 * (j % 8)]) S8x128.size lanes_inb
      fun j => shapeCast S8x128 (View.ld s (Rect.unit ![0, j % 8, 0] S8x1x128.size (row_inb j))) shapeCasts_S8x1x128_S8x128) n
  | 0 => rfl
  | n + 1 => by rw [outPieces, listOf, outPieces_eq s n]

theorem read_rows (v : View sig .tc .vmem S8x8x128 .f32) (f : v.ty.Contents (Elt Ideal)) (x : Vec Ideal S8x1024 .f32)
    (r : Fin 8) (j : Fin 8) (l : Fin 128) :
    v.read (Elt Ideal) (v.writes (Elt Ideal) f (rowPieces x 8)) (ix3 r j l) = x (ix2 r (tok j l)) := by
  rw [rowPieces_eq]
  refine read_listOf (S := S8x8x128) (e := .f32) _ _ _ _ (fun y => x (ix2 (y 0) (tok (y 1) (y 2)))) 8 v f
    (fun m hm (z : S8x1x128.Idx) y hy => ?_) _ j (by omega) fun a => ?_
  · have h0 : (y 0 : ℕ) = 0 + z 0 := hy 0
    have h1 : (y 1 : ℕ) = m % 8 + z 1 := hy 1
    have h2 : (y 2 : ℕ) = 0 + z 2 := hy 2
    idx_vars z
    obtain rfl : z1 = (0 : Fin 1) := Subsingleton.elim _ _
    have e0 : y 0 = z0 := Fin.ext (by simpa using h0)
    have e1 : y 1 = (⟨m, hm⟩ : Fin 8) := Fin.ext (by rw [h1]; show m % 8 + 0 = m; omega)
    have e2 : y 2 = z2 := Fin.ext (by simpa using h2)
    rw [e0, e1, e2]
    pointwise
    refine congrArg x (congrArg (ix2 z0) (Fin.ext ?_))
    show 128 * (m % 8) + (z2 : ℕ) = m * 128 + z2
    omega
  · match a with
    | ⟨0, _⟩ => show 0 ≤ (r : ℕ) ∧ (r : ℕ) < 0 + 8; omega
    | ⟨1, _⟩ => show (j : ℕ) % 8 ≤ j ∧ (j : ℕ) < (j : ℕ) % 8 + 1; omega
    | ⟨2, _⟩ => show 0 ≤ (l : ℕ) ∧ (l : ℕ) < 0 + 128; omega

/-- The column that lane `l` of block `j` holds. -/
def lane (j : Fin 8) (l : Fin 128) : Fin 768 := ⟨((j : ℕ) * 128 + l) % 768, by omega⟩

/-- The block that a token's scale lies in, and its lane there. -/
def hi (t : Fin 1024) : Fin 8 := ⟨t / 128, by omega⟩
def lo (t : Fin 1024) : Fin 128 := ⟨t % 128, by omega⟩

theorem read_mods (v : View sig .tc .vmem S8x8x128 .f32) (f : v.ty.Contents (Elt Ideal)) (x : Vec Ideal S8x768 .f32)
    (r : Fin 8) (k : Fin 768) :
    v.read (Elt Ideal) (v.writes (Elt Ideal) f (modPieces x 6)) (ix3 r ⟨k / 128, by omega⟩ ⟨k % 128, by omega⟩) = x (ix2 r k) := by
  rw [modPieces_eq]
  refine (read_listOf (S := S8x8x128) (e := .f32) _ _ _ _ (fun y => x (ix2 (y 0) (lane (y 1) (y 2)))) 6 v f
    (fun m hm (z : S8x1x128.Idx) y hy => ?_) _ (k / 128) (by omega) fun a => ?_).trans ?_
  · have h0 : (y 0 : ℕ) = 0 + z 0 := hy 0
    have h1 : (y 1 : ℕ) = m % 8 + z 1 := hy 1
    have h2 : (y 2 : ℕ) = 0 + z 2 := hy 2
    idx_vars z
    obtain rfl : z1 = (0 : Fin 1) := Subsingleton.elim _ _
    have e0 : y 0 = z0 := Fin.ext (by simpa using h0)
    have e1 : y 1 = (⟨m, by omega⟩ : Fin 8) := Fin.ext (by rw [h1]; show m % 8 + 0 = m; omega)
    have e2 : y 2 = z2 := Fin.ext (by simpa using h2)
    rw [e0, e1, e2]
    pointwise
    refine congrArg x (congrArg (ix2 z0) (Fin.ext ?_))
    have hz : (z2 : ℕ) < 128 := z2.isLt
    show 128 * (m % 6) + (z2 : ℕ) = (m * 128 + z2) % 768
    omega
  · match a with
    | ⟨0, _⟩ => show 0 ≤ (r : ℕ) ∧ (r : ℕ) < 0 + 8; omega
    | ⟨1, _⟩ => show (k : ℕ) / 128 % 8 ≤ (k : ℕ) / 128 ∧ (k : ℕ) / 128 < (k : ℕ) / 128 % 8 + 1; omega
    | ⟨2, _⟩ => show 0 ≤ (k : ℕ) % 128 ∧ (k : ℕ) % 128 < 0 + 128; omega
  · refine congrArg x (congrArg (ix2 r) (Fin.ext ?_))
    show ((k : ℕ) / 128 * 128 + (k : ℕ) % 128) % 768 = k
    omega

theorem read_out (v : View sig .tc .vmem S8x1024 .f32) (f : v.ty.Contents (Elt Ideal)) (s : Vec Ideal S8x8x128 .f32)
    (r : Fin 8) (t : Fin 1024) :
    v.read (Elt Ideal) (v.writes (Elt Ideal) f (outPieces s 8)) (ix2 r t) = s (ix3 r (hi t) (lo t)) := by
  rw [outPieces_eq]
  refine read_listOf (S := S8x1024) (e := .f32) _ _ _ _ (fun y => s (ix3 (y 0) (hi (y 1)) (lo (y 1)))) 8 v f
    (fun m hm (z : S8x128.Idx) y hy => ?_) (ix2 r t) (t / 128) (by omega) fun a => ?_
  · have h0 : (y 0 : ℕ) = 0 + z 0 := hy 0
    have h1 : (y 1 : ℕ) = 128 * (m % 8) + z 1 := hy 1
    idx_vars z
    have e0 : y 0 = z0 := Fin.ext (by simpa using h0)
    have e1 : hi (y 1) = (⟨m, hm⟩ : Fin 8) := Fin.ext (by
      show (y 1 : ℕ) / 128 = m
      have h : (y 1 : ℕ) = 128 * (m % 8) + (z1 : ℕ) := h1
      have := z1.isLt
      rw [h]; omega)
    have e2 : lo (y 1) = z1 := Fin.ext (by
      show (y 1 : ℕ) % 128 = z1
      have h : (y 1 : ℕ) = 128 * (m % 8) + (z1 : ℕ) := h1
      have := z1.isLt
      rw [h]; omega)
    rw [e0, e1, e2]
    pointwise
    refine congrArg s (congrArg (fun j => ix3 z0 j z1) (Fin.ext ?_))
    show m % 8 = m
    omega
  · match a with
    | ⟨0, _⟩ => show 0 ≤ (r : ℕ) ∧ (r : ℕ) < 0 + 8; omega
    | ⟨1, _⟩ => show 128 * ((t : ℕ) / 128 % 8) ≤ t ∧ (t : ℕ) < 128 * ((t : ℕ) / 128 % 8) + 128; omega

theorem row_read (s : Vec Ideal S8x8x128 .f32) (r : ℕ) (hr : r < 8)
    (inb : ∀ a, (![r, 0, 0] : Fin 3 → ℕ) a + S1x8x128.size a ≤ S8x8x128.size a) (j : Fin 8) (l : Fin 128) :
    shapeCast S8x128 (View.ld s (Rect.unit ![r, 0, 0] S1x8x128.size inb)) shapeCasts_S1x8x128_S8x128 (ix2 j l) = s (ix3 ⟨r, hr⟩ j l) := by
  have h : ∀ X : Vec Ideal S1x8x128 .f32, shapeCast S8x128 X shapeCasts_S1x8x128_S8x128 (ix2 j l) = X (ix3 0 j l) := fun X => by
    pointwise
  refine (h _).trans (View.ld_unit_apply_of _ _ _ _ _ _ fun a => ?_)
  match a with
  | ⟨0, _⟩ => show r = r + 0; omega
  | ⟨1, _⟩ => show (j : ℕ) = 0 + j; omega
  | ⟨2, _⟩ => show (l : ℕ) = 0 + l; omega

theorem rowOf_apply (s : Vec Ideal S8x8x128 .f32) (i : grid0.Coords) (j : Fin 8) (l : Fin 128) :
    rowOf s i (ix2 j l) = s (ix3 ⟨(i 0).val % 8, by omega⟩ j l) := by
  have : ∀ (off : Fin 3 → ℕ) (h : off = ![(i 0).val % 8, 0, 0]) (inb : ∀ a, off a + S1x8x128.size a ≤ S8x8x128.size a),
      shapeCast S8x128 (View.ld s (Rect.unit off S1x8x128.size inb)) shapeCasts_S1x8x128_S8x128 (ix2 j l)
        = s (ix3 ⟨(i 0).val % 8, by omega⟩ j l) := by
    rintro _ rfl inb
    exact row_read s _ _ inb j l
  exact this _ (k0_off1_eq i) _

theorem oneMod_apply (M : FVec Ideal S8x128 .f32) (k : Fin 768) :
    oneMod M (ix2 0 k) = 1 + M (ix2 ⟨k / 128, by omega⟩ ⟨k % 128, by omega⟩) := by
  have e : ∀ (q : Fin 8) (a : Fin 128) (h : (k : ℕ) = (q : ℕ) * 128 + a),
      M (ix2 q a) = M (ix2 ⟨k / 128, by omega⟩ ⟨k % 128, by omega⟩) := fun q a h =>
    congrArg M (congrArg₂ ix2 (Fin.ext (by simp only []; omega)) (Fin.ext (by simp only []; omega)))
  pointwise [oneMod]
  refine congrArg (1 + ·) ?_
  by_cases h1 : (k : ℕ) < 128
  · rw [dif_pos h1]; exact e 0 _ (by show (k : ℕ) = 0 * 128 + (k : ℕ); omega)
  rw [dif_neg h1]
  by_cases h2 : (k : ℕ) - 128 < 128
  · rw [dif_pos h2]; exact e 1 _ (by show (k : ℕ) = 1 * 128 + ((k : ℕ) - 128); omega)
  rw [dif_neg h2]
  by_cases h3 : (k : ℕ) - 128 - 128 < 128
  · rw [dif_pos h3]; exact e 2 _ (by show (k : ℕ) = 2 * 128 + ((k : ℕ) - 128 - 128); omega)
  rw [dif_neg h3]
  by_cases h4 : (k : ℕ) - 128 - 128 - 128 < 128
  · rw [dif_pos h4]; exact e 3 _ (by show (k : ℕ) = 3 * 128 + ((k : ℕ) - 128 - 128 - 128); omega)
  rw [dif_neg h4]
  by_cases h5 : (k : ℕ) - 128 - 128 - 128 - 128 < 128
  · rw [dif_pos h5]; exact e 4 _ (by show (k : ℕ) = 4 * 128 + ((k : ℕ) - 128 - 128 - 128 - 128); omega)
  rw [dif_neg h5]
  exact e 5 _ (by show (k : ℕ) = 5 * 128 + ((k : ℕ) - 128 - 128 - 128 - 128 - 128); omega)

theorem piece_congr {S : Shape} {e : EltTy} {off off' size : Fin S.rank → ℕ} (inb : ∀ a, off a + size a ≤ S.size a)
    (inb' : ∀ a, off' a + size a ≤ S.size a) (w : (⟨S.rank, size⟩ : Shape).Idx → Elt Ideal e) (h : off = off') :
    (⟨Rect.unit off size inb, w⟩ : View.Piece (Elt Ideal) S e) = ⟨Rect.unit off' size inb', w⟩ := by subst h; rfl

theorem scale_inb (r : ℕ) (hr : r < 8) (j : ℕ) : ∀ a, (![r, j % 8, 0] : Fin 3 → ℕ) a + S1x1x128.size a ≤ S8x8x128.size a := fun a => by
  have := Nat.mod_lt j (by norm_num : 0 < 8)
  match a with
  | ⟨0, _⟩ => show r + 1 ≤ 8; omega
  | ⟨1, _⟩ => show j % 8 + 1 ≤ 8; omega
  | ⟨2, _⟩ => show 0 + 128 ≤ 128; omega

theorem scalePieces_eq (p : Point Ideal) (i : grid0.Coords) : scalePieces p i
    = listOf (pieceAt (S := S8x8x128) (e := .f32) (fun j => ![(i 0).val % 8, j % 8, 0]) S1x1x128.size
      (scale_inb _ (Nat.mod_lt _ (by norm_num))) p.scalePay) 8 := by
  have hi := scale_inb _ (Nat.mod_lt (i 0).val (by norm_num : 0 < 8))
  exact congrArg₂ List.cons (piece_congr (S := S8x8x128) (e := .f32) (size := S1x1x128.size) _ (hi 7) _ (k0_off9_eq i)) (congrArg₂ List.cons (piece_congr (S := S8x8x128) (e := .f32) (size := S1x1x128.size) _ (hi 6) _ (k0_off8_eq i))
    (congrArg₂ List.cons (piece_congr (S := S8x8x128) (e := .f32) (size := S1x1x128.size) _ (hi 5) _ (k0_off7_eq i)) (congrArg₂ List.cons (piece_congr (S := S8x8x128) (e := .f32) (size := S1x1x128.size) _ (hi 4) _ (k0_off6_eq i))
    (congrArg₂ List.cons (piece_congr (S := S8x8x128) (e := .f32) (size := S1x1x128.size) _ (hi 3) _ (k0_off5_eq i)) (congrArg₂ List.cons (piece_congr (S := S8x8x128) (e := .f32) (size := S1x1x128.size) _ (hi 2) _ (k0_off4_eq i))
    (congrArg₂ List.cons (piece_congr (S := S8x8x128) (e := .f32) (size := S1x1x128.size) _ (hi 1) _ (k0_off3_eq i)) (congrArg₂ List.cons (piece_congr (S := S8x8x128) (e := .f32) (size := S1x1x128.size) _ (hi 0) _ (k0_off2_eq i)) rfl)))))))

theorem read_scales_own (p : Point Ideal) (i : grid0.Coords) (v : View sig .tc .vmem S8x8x128 .f32) (f : v.ty.Contents (Elt Ideal))
    (r j : Fin 8) (hr : (r : ℕ) = (i 0).val % 8) (l : Fin 128) :
    v.read (Elt Ideal) (v.writes (Elt Ideal) f (scalePieces p i)) (ix3 r j l) = p.scales j (ix2 0 l) := by
  rw [scalePieces_eq]
  refine read_listOf (S := S8x8x128) (e := .f32) _ _ _ _ (fun y => p.scales (y 1) (ix2 0 (y 2))) 8 v f
    (fun m hm (z : S1x1x128.Idx) y hy => ?_) _ j (by omega) fun a => ?_
  · have h1 : (y 1 : ℕ) = m % 8 + z 1 := hy 1
    have h2 : (y 2 : ℕ) = 0 + z 2 := hy 2
    idx_vars z
    obtain rfl : z1 = (0 : Fin 1) := Subsingleton.elim _ _
    have e1 : (y 1 : ℕ) = m := by rw [h1]; show m % 8 + 0 = m; omega
    have e2 : y 2 = z2 := Fin.ext (by simpa using h2)
    rw [e1, e2, Subsingleton.elim z0 0]
    pointwise [Point.scalePay]
  · match a with
    | ⟨0, _⟩ => show (i 0).val % 8 ≤ r ∧ (r : ℕ) < (i 0).val % 8 + 1; omega
    | ⟨1, _⟩ => show (j : ℕ) % 8 ≤ j ∧ (j : ℕ) < (j : ℕ) % 8 + 1; omega
    | ⟨2, _⟩ => show 0 ≤ (l : ℕ) ∧ (l : ℕ) < 0 + 128; omega

theorem read_scales_other (p : Point Ideal) (i : grid0.Coords) (v : View sig .tc .vmem S8x8x128 .f32) (f : v.ty.Contents (Elt Ideal))
    (r j : Fin 8) (hr : (r : ℕ) ≠ (i 0).val % 8) (l : Fin 128) :
    v.read (Elt Ideal) (v.writes (Elt Ideal) f (scalePieces p i)) (ix3 r j l) = v.read (Elt Ideal) f (ix3 r j l) := by
  rw [scalePieces_eq]
  have : ∀ n, v.read (Elt Ideal) (v.writes (Elt Ideal) f (listOf (pieceAt (S := S8x8x128) (e := .f32) (fun j => ![(i 0).val % 8, j % 8, 0]) S1x1x128.size
      (scale_inb _ (Nat.mod_lt _ (by norm_num))) p.scalePay) n)) (ix3 r j l) = v.read (Elt Ideal) f (ix3 r j l) := fun n => by
    induction n with
    | zero => rfl
    | succ n ih =>
      rw [listOf, ← ih]
      refine View.read_writes_cons_unit_of_not_mem v f _ _ _ _ rfl (0 : Fin 3) ?_
      show (r : ℕ) < (i 0).val % 8 ∨ (i 0).val % 8 + 1 ≤ (r : ℕ)
      omega
  exact this 8

end Cert.KernelIdeal.Chunk

end
-- ==== Proof.Ideal.Arrays.lean ====
/- The four results as functions of the eight arguments, over the extended reals; the reference computes them. -/
module

public import proofs.«01_k».proof.Proof.Ideal.Ref
public import proofs.«01_k».proof.Proof.Gen.ReferenceIdeal.Value

@[expose] public section

set_option maxRecDepth 16384

noncomputable section

namespace Cert.Spec

open Idealize.ShloMosaic Idealize.ShloMosaic.TcCoe Idealize.SL.Sem
open Cert.ReferenceIdeal Cert.ReferenceIdeal.Gen Cert.ReferenceIdeal.Hand

/-- The arguments: the codes and scales of the input and of the two gradients, the output of the inner function, and the
    modulation. -/
structure Data where
  x : Fin 112 → Fin 1024 → Row
  sx : Fin 112 → Fin 1024 → EReal
  f : Fin 112 → Fin 1024 → Row
  y : Fin 112 → Fin 1024 → Row
  sy : Fin 112 → Fin 1024 → EReal
  h : Fin 112 → Fin 1024 → Row
  sh : Fin 112 → Fin 1024 → EReal
  w : Fin 112 → Row

/-- The argument arrays, read by batch, token and column. -/
def dataOf (a0 : Vec Ideal S112x1024x768 .fp8e4m3) (a1 : Vec Ideal S112x1024 .f32) (a2 : Vec Ideal S112x1024x768 .bf16)
    (a3 : Vec Ideal S112x1024x768 .fp8e5m2) (a4 : Vec Ideal S112x1024 .f32) (a5 : Vec Ideal S112x1024x768 .fp8e5m2)
    (a6 : Vec Ideal S112x1024 .f32) (a7 : Vec Ideal S112x768 .f32) : Data where
  x b t k := a0 (ix3 b t k)
  sx b t := a1 (ix2 b t)
  f b t k := a2 (ix3 b t k)
  y b t k := a3 (ix3 b t k)
  sy b t := a4 (ix2 b t)
  h b t k := a5 (ix3 b t k)
  sh b t := a6 (ix2 b t)
  w b k := a7 (ix2 b k)

namespace Data
variable (D : Data)

def xRow (b : Fin 112) (t : Fin 1024) : Row := fun k => D.x b t k * D.sx b t
def yRow (b : Fin 112) (t : Fin 1024) : Row := fun k => D.y b t k * D.sy b t
def hRow (b : Fin 112) (t : Fin 1024) : Row := fun k => D.h b t k * D.sh b t
def wRow (b : Fin 112) : Row := fun k => 1 + D.w b k
/-- The gradient of a token. -/
def dRow (b : Fin 112) (t : Fin 1024) : Row := dxRow (D.xRow b t) (D.yRow b t) (D.hRow b t) (D.wRow b)

/-- The three sums over a block of 128 tokens. -/
def blockSum (b : Fin 112) (j : Fin 8) (n : Fin 3) : Row := fun k =>
  ∑ i : Fin 128, term (D.xRow b (tok j i)) (D.yRow b (tok j i)) (D.hRow b (tok j i)) (D.f b (tok j i)) n k

/-- The four results. -/
def totals : Vec Ideal S112x3x768 .f32 := fun y => ∑ j : Fin 8, D.blockSum (y 0) j (y 1) (y 2)
def blocks : Vec Ideal S112x8x3x768 .f32 := fun y => D.blockSum (y 0) (y 1) (y 2) (y 3)
def codes : Vec Ideal S112x1024x768 .fp8e5m2 := fun y => codeRow (D.dRow (y 0) (y 1)) (y 2)
def scales : Vec Ideal S112x1024 .f32 := fun y => scaleRow (D.dRow (y 0) (y 1))

end Data

section Reference
variable (a0 : Vec Ideal S112x1024x768 .fp8e4m3) (a1 : Vec Ideal S112x1024 .f32) (a2 : Vec Ideal S112x1024x768 .bf16)
  (a3 : Vec Ideal S112x1024x768 .fp8e5m2) (a4 : Vec Ideal S112x1024 .f32) (a5 : Vec Ideal S112x1024x768 .fp8e5m2)
  (a6 : Vec Ideal S112x1024 .f32) (a7 : Vec Ideal S112x768 .f32)

theorem ld3 {e : EltTy} (x : Vec Ideal S112x1024x768 e) : View.ld x r0_0 = x :=
  View.ld_unit_zero (S := S112x1024x768) Cert.ReferenceIdeal.Value.hz2 _ x
theorem ld2 {e : EltTy} (x : Vec Ideal S112x1024 e) : View.ld x r0_1 = x :=
  View.ld_unit_zero (S := S112x1024) (funext fun a => by fin_cases a <;> rfl) _ x
theorem ld1 {e : EltTy} (x : Vec Ideal S112x768 e) : View.ld x (Rect.unit (s := S112x768) ![0, 0] S112x768.size inb_S112x768_S112x768_0_0) = x :=
  View.ld_unit_zero (S := S112x768) (funext fun a => by fin_cases a <;> rfl) _ x

theorem pay3_apply (x : Vec Ideal S112x1024x768 .fp8e5m2) (s : Vec Ideal S112x1024 .f32) (b : Fin 112) (t : Fin 1024) (k : Fin 768) :
    k0_pay3 (F := Ideal) x s (ix3 b t k) = x (ix3 b t k) * s (ix2 b t) := by
  pointwise [k0_pay3]

theorem pay4_apply (x : Vec Ideal S112x1024x768 .fp8e5m2) (s : Vec Ideal S112x1024 .f32) (b : Fin 112) (t : Fin 1024) (k : Fin 768) :
    k0_pay4 (F := Ideal) x s (ix3 b t k) = x (ix3 b t k) * s (ix2 b t) := by
  pointwise [k0_pay4]

theorem G9_eq : Cert.ReferenceIdeal.Value.G9 a0 a1 a2 a3 a4 a5 a6 a7 = (dataOf a0 a1 a2 a3 a4 a5 a6 a7).blocks := by
  funext y
  idx_vars y
  unfold Cert.ReferenceIdeal.Value.G9 k0_pay14 k0_pay18 k0_pay19
  simp only [ld3, ld2]
  refine (pay10_apply _ _ _ _ _ _ _ _ _ _).trans ?_
  simp only [pay3_apply]
  rfl

theorem G8_eq : Cert.ReferenceIdeal.Value.G8 a0 a1 a2 a3 a4 a5 a6 a7 = (dataOf a0 a1 a2 a3 a4 a5 a6 a7).totals := by
  funext y
  idx_vars y
  refine (pay11_apply _ _ _ _ _ _ _).trans ?_
  exact Finset.sum_congr rfl fun j _ => congrFun (G9_eq a0 a1 a2 a3 a4 a5 a6 a7) (ix4 y0 j y1 y2)

theorem G11_eq : Cert.ReferenceIdeal.Value.G11 a0 a1 a2 a3 a4 a5 a6 a7 = (dataOf a0 a1 a2 a3 a4 a5 a6 a7).scales := by
  funext y
  idx_vars y
  unfold Cert.ReferenceIdeal.Value.G11 k0_pay20 k0_pay14 k0_pay15 k0_pay16 k0_pay17
  simp only [ld3, ld2, ld1]
  refine (pay1_apply _ _ _).trans ?_
  rw [pay13_apply]
  simp only [pay3_apply, pay4_apply]
  rfl

theorem G10_eq : Cert.ReferenceIdeal.Value.G10 a0 a1 a2 a3 a4 a5 a6 a7 = (dataOf a0 a1 a2 a3 a4 a5 a6 a7).codes := by
  funext y
  idx_vars y
  unfold Cert.ReferenceIdeal.Value.G10 k0_pay20 k0_pay14 k0_pay15 k0_pay16 k0_pay17
  simp only [ld3, ld2, ld1]
  refine (pay2_apply _ _ _ _ _).trans ?_
  rw [pay13_apply, pay12_apply]
  simp only [pay3_apply, pay4_apply]
  rfl

end Reference

end Cert.Spec

end
-- ==== Proof.Ideal.Values.lean ====
/- What a grid point leaves in the results' windows, from what it loads: the specification's values. -/
module

public import proofs.«01_k».proof.Proof.Ideal.Read
public import proofs.«01_k».proof.Proof.Ideal.Arrays

@[expose] public section

set_option maxRecDepth 16384

noncomputable section

namespace Cert.KernelIdeal.Chunk

open Idealize.ShloMosaic Idealize.ShloMosaic.TcCoe Idealize.SL.Sem
open Cert.KernelIdeal Cert.KernelIdeal.Gen Cert.KernelIdeal.Hand Cert.Spec
open Cert.ReferenceIdeal.Hand (tok)

/-- The place of batch `b`'s row in its block of eight. -/
def place (b : Fin 112) : Fin 8 := ⟨(b : ℕ) % 8, by omega⟩

/-- What the windows of the inputs hold at the grid point of batch `b`. -/
structure Loaded (D : Data) (b : Fin 112) (x1 x2 x3 : Vec Ideal S8x1024 .f32) (x4 : Vec Ideal S8x768 .f32)
    (x5 : Vec Ideal S1x1024x768 .fp8e4m3) (x6 : Vec Ideal S1x1024x768 .bf16) (x7 x8 : Vec Ideal S1x1024x768 .fp8e5m2) : Prop where
  h1 : ∀ t, x1 (ix2 (place b) t) = D.sx b t
  h2 : ∀ t, x2 (ix2 (place b) t) = D.sy b t
  h3 : ∀ t, x3 (ix2 (place b) t) = D.sh b t
  h4 : ∀ k, x4 (ix2 (place b) k) = D.w b k
  h5 : ∀ t k, x5 (ix3 0 t k) = D.x b t k
  h6 : ∀ t k, x6 (ix3 0 t k) = D.f b t k
  h7 : ∀ t k, x7 (ix3 0 t k) = D.y b t k
  h8 : ∀ t k, x8 (ix3 0 t k) = D.h b t k

section
variable {D : Data} {b : Fin 112} {x1 x2 x3 : Vec Ideal S8x1024 .f32} {x4 : Vec Ideal S8x768 .f32}
  {x5 : Vec Ideal S1x1024x768 .fp8e4m3} {x6 : Vec Ideal S1x1024x768 .bf16} {x7 x8 : Vec Ideal S1x1024x768 .fp8e5m2}
  (L : Loaded D b x1 x2 x3 x4 x5 x6 x7 x8) (i : grid0.Coords) (hi : (i 0).val = b)
  (arg13 arg14 arg15 arg16 : Memref sig .tc .vmem S8x8x128 .f32) (harg16 : arg16.IsWhole) (s16 : Vec Ideal S8x8x128 .f32)

include L hi

theorem holds_run : Holds (runPoint (F := Ideal) i arg13 arg14 arg15 arg16 harg16 x1 x2 x3 x4 x5 x6 x7 x8 s16)
    (D.sx b) (D.sy b) (D.sh b) (D.wRow b) := by
  have e : (⟨(i 0).val % 8, by omega⟩ : Fin 8) = place b := Fin.ext (by simp only [hi, place])
  refine ⟨fun j l => ?_, fun j l => ?_, fun j l => ?_, fun k => ?_⟩
  · unfold runPoint
    dsimp only
    rw [rowOf_apply, read_rows, e, L.h1]
  · unfold runPoint
    dsimp only
    rw [rowOf_apply, read_rows, e, L.h2]
  · unfold runPoint
    dsimp only
    rw [rowOf_apply, read_rows, e, L.h3]
  · refine (oneMod_apply _ k).trans ?_
    rw [rowOf_apply, read_mods, e, L.h4]; rfl

theorem run_dRow (t : Fin 1024) : (runPoint (F := Ideal) i arg13 arg14 arg15 arg16 harg16 x1 x2 x3 x4 x5 x6 x7 x8 s16).dRow
    (D.sx b) (D.sy b) (D.sh b) (D.wRow b) t = D.dRow b t := by
  unfold Point.dRow Data.dRow Point.xRow Point.yRow Point.hRow Data.xRow Data.yRow Data.hRow
  simp only [L.h5, L.h7, L.h8]

theorem run_sums (j : Fin 8) (n : Fin 3) (k : Fin 768) :
    (runPoint (F := Ideal) i arg13 arg14 arg15 arg16 harg16 x1 x2 x3 x4 x5 x6 x7 x8 s16).sums
      (D.sx b) (D.sy b) (D.sh b) j n k = D.blockSum b j n k := by
  unfold Point.sums Data.blockSum Point.xRow Point.yRow Point.hRow Point.fRow Data.xRow Data.yRow Data.hRow
  simp only [L.h5, L.h6, L.h7, L.h8]

end

/-- What the results' windows are to hold after the grid point of batch `b`. -/
def R8 (D : Data) (b : Fin 112) (X : Vec Ideal S1x3x768 .f32) : Prop := ∀ n k, X (ix3 0 n k) = ∑ j : Fin 8, D.blockSum b j n k
def R9 (D : Data) (b : Fin 112) (X : Vec Ideal S1x8x3x768 .f32) : Prop := ∀ j n k, X (ix4 0 j n k) = D.blockSum b j n k
def R10 (D : Data) (b : Fin 112) (X : Vec Ideal S1x1024x768 .fp8e5m2) : Prop := ∀ t k, X (ix3 0 t k) = codeRow (D.dRow b t) k
/-- The scales' window: the rows of the batches so far in its block of eight. -/
def R11 (D : Data) (b : Fin 112) (X : Vec Ideal S8x1024 .f32) : Prop :=
  ∀ b' : Fin 112, (b' : ℕ) / 8 = (b : ℕ) / 8 → b' ≤ b → ∀ t, X (ix2 (place b') t) = scaleRow (D.dRow b' t)
/-- The scratch buffer of scales before grid point `n`: the rows of the batches so far in the point's block of eight. -/
def Kept (D : Data) (n : ℕ) (s : Vec Ideal S8x8x128 .f32) : Prop :=
  ∀ b' : Fin 112, (b' : ℕ) / 8 = n / 8 → (b' : ℕ) < n → ∀ j l, s (ix3 (place b') j l) = scaleRow (D.dRow b' (tok j l))

theorem Kept.succ {D : Data} {b : Fin 112} {s : Vec Ideal S8x8x128 .f32}
    (h : ∀ b' : Fin 112, (b' : ℕ) / 8 = (b : ℕ) / 8 → b' ≤ b → ∀ j l, s (ix3 (place b') j l) = scaleRow (D.dRow b' (tok j l))) :
    Kept D (b + 1) s := fun b' h1 h2 => h b' (by omega) (Fin.le_def.mpr (by omega))

theorem tok_hi_lo (t : Fin 1024) : tok (hi t) (lo t) = t := Fin.ext (by simp only [tok, hi, lo]; omega)

section
variable {D : Data} {b : Fin 112} {x1 x2 x3 : Vec Ideal S8x1024 .f32} {x4 : Vec Ideal S8x768 .f32}
  {x5 : Vec Ideal S1x1024x768 .fp8e4m3} {x6 : Vec Ideal S1x1024x768 .bf16} {x7 x8 : Vec Ideal S1x1024x768 .fp8e5m2}
  (L : Loaded D b x1 x2 x3 x4 x5 x6 x7 x8) (i : grid0.Coords) (hi : (i 0).val = b)
  (arg13 arg14 arg15 arg16 : Memref sig .tc .vmem S8x8x128 .f32) (harg16 : arg16.IsWhole) (s16 : Vec Ideal S8x8x128 .f32)

include L hi

theorem totals_left (v : View sig .tc .vmem S1x3x768 .f32) (f : v.ty.Contents (Elt Ideal)) :
    R8 D b (v.read (Elt Ideal) (v.writes (Elt Ideal) f
      ((runPoint (F := Ideal) i arg13 arg14 arg15 arg16 harg16 x1 x2 x3 x4 x5 x6 x7 x8 s16).totalPieces v 8))) := fun n k =>
  (Point.read_totals (holds_run L i hi arg13 arg14 arg15 arg16 harg16 s16) v f n k).trans
    (Finset.sum_congr rfl fun j _ => run_sums L i hi arg13 arg14 arg15 arg16 harg16 s16 j n k)

theorem blocks_left (v : View sig .tc .vmem S1x8x3x768 .f32) (f : v.ty.Contents (Elt Ideal)) :
    R9 D b (v.read (Elt Ideal) (v.writes (Elt Ideal) f
      ((runPoint (F := Ideal) i arg13 arg14 arg15 arg16 harg16 x1 x2 x3 x4 x5 x6 x7 x8 s16).blockPieces 8))) := fun j n k =>
  (Point.read_blocks (holds_run L i hi arg13 arg14 arg15 arg16 harg16 s16) v f j n k).trans
    (run_sums L i hi arg13 arg14 arg15 arg16 harg16 s16 j n k)

theorem codes_left (v : View sig .tc .vmem S1x1024x768 .fp8e5m2) (f : v.ty.Contents (Elt Ideal)) :
    R10 D b (v.read (Elt Ideal) (v.writes (Elt Ideal) f
      ((runPoint (F := Ideal) i arg13 arg14 arg15 arg16 harg16 x1 x2 x3 x4 x5 x6 x7 x8 s16).codePieces 32))) := fun t k =>
  (Point.read_codes (holds_run L i hi arg13 arg14 arg15 arg16 harg16 s16) v f t k).trans
    (by rw [run_dRow L i hi arg13 arg14 arg15 arg16 harg16 s16])

/-- The scratch buffer of scales after the point. -/
theorem scales_kept (v : View sig .tc .vmem S8x8x128 .f32) (f : v.ty.Contents (Elt Ideal)) (hf : Kept D b (v.read (Elt Ideal) f))
    (b' : Fin 112) (h1 : (b' : ℕ) / 8 = (b : ℕ) / 8) (h2 : b' ≤ b) (j : Fin 8) (l : Fin 128) :
    v.read (Elt Ideal) (v.writes (Elt Ideal) f
      (scalePieces (runPoint (F := Ideal) i arg13 arg14 arg15 arg16 harg16 x1 x2 x3 x4 x5 x6 x7 x8 s16) i)) (ix3 (place b') j l)
      = scaleRow (D.dRow b' (tok j l)) := by
  have h2' : (b' : ℕ) ≤ b := h2
  by_cases e : b' = b
  · subst e
    rw [read_scales_own _ i v f _ j (by simp only [place, hi]) l,
      Point.scales_apply (holds_run L i hi arg13 arg14 arg15 arg16 harg16 s16), run_dRow L i hi arg13 arg14 arg15 arg16 harg16 s16]
  · have hne : (b' : ℕ) ≠ b := fun h => e (Fin.ext h)
    rw [read_scales_other _ i v f _ j (by simp only [place, hi]; omega) l]
    exact hf b' h1 (by omega) j l

theorem scales_left (v : View sig .tc .vmem S8x1024 .f32) (g : v.ty.Contents (Elt Ideal)) (v' : View sig .tc .vmem S8x8x128 .f32)
    (f : v'.ty.Contents (Elt Ideal)) (hf : Kept D b (v'.read (Elt Ideal) f)) :
    R11 D b (v.read (Elt Ideal) (v.writes (Elt Ideal) g (outPieces (v'.read (Elt Ideal) (v'.writes (Elt Ideal) f
      (scalePieces (runPoint (F := Ideal) i arg13 arg14 arg15 arg16 harg16 x1 x2 x3 x4 x5 x6 x7 x8 s16) i))) 8))) := fun b' h1 h2 t => by
  rw [read_out, scales_kept L i hi arg13 arg14 arg15 arg16 harg16 s16 v' f hf b' h1 h2, tok_hi_lo]

end

end Cert.KernelIdeal.Chunk

end
-- ==== Proof.Ideal.Blocks.lean ====
/- Where each window's block lies in its array, and what the inputs' windows hold at a grid point. -/
module

public import proofs.«01_k».proof.Proof.Ideal.Values

@[expose] public section

set_option maxRecDepth 16384

noncomputable section

namespace Cert.KernelIdeal.Chunk

open Idealize.ShloMosaic Idealize.ShloMosaic.TcCoe Idealize.SL.Sem
open Cert.KernelIdeal Cert.KernelIdeal.Gen Cert.KernelIdeal.Hand Cert.Spec

/-- The batch of a grid point. -/
def bt (t : Fin cfg0.N) : Fin 112 := ⟨t.val, lt_of_lt_of_eq t.isLt N_0⟩

theorem coords_bt : ∀ t : Fin cfg0.N, (grid0.coords t 0).val = (bt t : ℕ) :=
  (by decide +kernel : ∀ t : Fin grid0.N, (grid0.coords t 0).val = t.val)

/-- The batch of row `r` of a window of eight rows at a point. -/
def row (t : Fin cfg0.N) (r : Fin 8) : Fin 112 := ⟨8 * ((bt t : ℕ) / 8) + r, by have := (bt t).isLt; omega⟩

theorem row_place (t : Fin cfg0.N) (b : Fin 112) (h : (b : ℕ) / 8 = (bt t : ℕ) / 8) : row t (place b) = b :=
  Fin.ext (by simp only [row, place]; omega)
theorem place_row (t : Fin cfg0.N) (r : Fin 8) : place (row t r) = r := Fin.ext (by simp only [row, place]; omega)

theorem idx0 : ∀ t : Fin cfg0.N, win0_0.index t (0 : Fin 2) = t.val / 8 ∧ win0_0.index t (1 : Fin 2) = 0 :=
  (by decide +kernel : ∀ t : Fin grid0.N, _)
theorem emb0 (t : Fin cfg0.N) (r : Fin 8) (l : Fin 1024) : ((cfg0.win 0).blk t).view.emb (ix2 r l) = ix2 (row t r) l := by
  obtain ⟨e0, e1⟩ := idx0 t
  funext a; apply Fin.ext
  match a with
  | ⟨0, _⟩ => show win0_0.index t (0 : Fin 2) * 8 + 1 * (r : ℕ) = 8 * (t.val / 8) + r; omega
  | ⟨1, _⟩ => show win0_0.index t (1 : Fin 2) * 1024 + 1 * (l : ℕ) = l; omega

theorem idx1 : ∀ t : Fin cfg0.N, win0_1.index t (0 : Fin 2) = t.val / 8 ∧ win0_1.index t (1 : Fin 2) = 0 :=
  (by decide +kernel : ∀ t : Fin grid0.N, _)
theorem emb1 (t : Fin cfg0.N) (r : Fin 8) (l : Fin 1024) : ((cfg0.win 1).blk t).view.emb (ix2 r l) = ix2 (row t r) l := by
  obtain ⟨e0, e1⟩ := idx1 t
  funext a; apply Fin.ext
  match a with
  | ⟨0, _⟩ => show win0_1.index t (0 : Fin 2) * 8 + 1 * (r : ℕ) = 8 * (t.val / 8) + r; omega
  | ⟨1, _⟩ => show win0_1.index t (1 : Fin 2) * 1024 + 1 * (l : ℕ) = l; omega

theorem idx2 : ∀ t : Fin cfg0.N, win0_2.index t (0 : Fin 2) = t.val / 8 ∧ win0_2.index t (1 : Fin 2) = 0 :=
  (by decide +kernel : ∀ t : Fin grid0.N, _)
theorem emb2 (t : Fin cfg0.N) (r : Fin 8) (l : Fin 1024) : ((cfg0.win 2).blk t).view.emb (ix2 r l) = ix2 (row t r) l := by
  obtain ⟨e0, e1⟩ := idx2 t
  funext a; apply Fin.ext
  match a with
  | ⟨0, _⟩ => show win0_2.index t (0 : Fin 2) * 8 + 1 * (r : ℕ) = 8 * (t.val / 8) + r; omega
  | ⟨1, _⟩ => show win0_2.index t (1 : Fin 2) * 1024 + 1 * (l : ℕ) = l; omega

theorem idx3 : ∀ t : Fin cfg0.N, win0_3.index t (0 : Fin 2) = t.val / 8 ∧ win0_3.index t (1 : Fin 2) = 0 :=
  (by decide +kernel : ∀ t : Fin grid0.N, _)
theorem emb3 (t : Fin cfg0.N) (r : Fin 8) (l : Fin 768) : ((cfg0.win 3).blk t).view.emb (ix2 r l) = ix2 (row t r) l := by
  obtain ⟨e0, e1⟩ := idx3 t
  funext a; apply Fin.ext
  match a with
  | ⟨0, _⟩ => show win0_3.index t (0 : Fin 2) * 8 + 1 * (r : ℕ) = 8 * (t.val / 8) + r; omega
  | ⟨1, _⟩ => show win0_3.index t (1 : Fin 2) * 768 + 1 * (l : ℕ) = l; omega

theorem idx11 : ∀ t : Fin cfg0.N, win0_11.index t (0 : Fin 2) = t.val / 8 ∧ win0_11.index t (1 : Fin 2) = 0 :=
  (by decide +kernel : ∀ t : Fin grid0.N, _)
theorem emb11 (t : Fin cfg0.N) (r : Fin 8) (l : Fin 1024) : ((cfg0.win 11).blk t).view.emb (ix2 r l) = ix2 (row t r) l := by
  obtain ⟨e0, e1⟩ := idx11 t
  funext a; apply Fin.ext
  match a with
  | ⟨0, _⟩ => show win0_11.index t (0 : Fin 2) * 8 + 1 * (r : ℕ) = 8 * (t.val / 8) + r; omega
  | ⟨1, _⟩ => show win0_11.index t (1 : Fin 2) * 1024 + 1 * (l : ℕ) = l; omega

theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem emb4 (t : Fin cfg0.N) (n : Fin 1024) (k : Fin 768) : ((cfg0.win 4).blk t).view.emb (ix3 0 n k) = ix3 (bt t) n k := by
  obtain ⟨e0, e1, e2⟩ := idx4 t
  funext a; apply Fin.ext
  match a with
  | ⟨0, _⟩ => show win0_4.index t (0 : Fin 3) * 1 + 1 * 0 = t.val; omega
  | ⟨1, _⟩ => show win0_4.index t (1 : Fin 3) * 1024 + 1 * (n : ℕ) = n; omega
  | ⟨2, _⟩ => show win0_4.index t (2 : Fin 3) * 768 + 1 * (k : ℕ) = k; omega

theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem emb5 (t : Fin cfg0.N) (n : Fin 1024) (k : Fin 768) : ((cfg0.win 5).blk t).view.emb (ix3 0 n k) = ix3 (bt t) n k := by
  obtain ⟨e0, e1, e2⟩ := idx5 t
  funext a; apply Fin.ext
  match a with
  | ⟨0, _⟩ => show win0_5.index t (0 : Fin 3) * 1 + 1 * 0 = t.val; omega
  | ⟨1, _⟩ => show win0_5.index t (1 : Fin 3) * 1024 + 1 * (n : ℕ) = n; omega
  | ⟨2, _⟩ => show win0_5.index t (2 : Fin 3) * 768 + 1 * (k : ℕ) = k; omega

theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem emb6 (t : Fin cfg0.N) (n : Fin 1024) (k : Fin 768) : ((cfg0.win 6).blk t).view.emb (ix3 0 n k) = ix3 (bt t) n k := by
  obtain ⟨e0, e1, e2⟩ := idx6 t
  funext a; apply Fin.ext
  match a with
  | ⟨0, _⟩ => show win0_6.index t (0 : Fin 3) * 1 + 1 * 0 = t.val; omega
  | ⟨1, _⟩ => show win0_6.index t (1 : Fin 3) * 1024 + 1 * (n : ℕ) = n; omega
  | ⟨2, _⟩ => show win0_6.index t (2 : Fin 3) * 768 + 1 * (k : ℕ) = k; omega

theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem emb7 (t : Fin cfg0.N) (n : Fin 1024) (k : Fin 768) : ((cfg0.win 7).blk t).view.emb (ix3 0 n k) = ix3 (bt t) n k := by
  obtain ⟨e0, e1, e2⟩ := idx7 t
  funext a; apply Fin.ext
  match a with
  | ⟨0, _⟩ => show win0_7.index t (0 : Fin 3) * 1 + 1 * 0 = t.val; omega
  | ⟨1, _⟩ => show win0_7.index t (1 : Fin 3) * 1024 + 1 * (n : ℕ) = n; omega
  | ⟨2, _⟩ => show win0_7.index t (2 : Fin 3) * 768 + 1 * (k : ℕ) = k; omega

theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
theorem emb8 (t : Fin cfg0.N) (n : Fin 3) (k : Fin 768) : ((cfg0.win 8).blk t).view.emb (ix3 0 n k) = ix3 (bt t) n k := by
  obtain ⟨e0, e1, e2⟩ := idx8 t
  funext a; apply Fin.ext
  match a with
  | ⟨0, _⟩ => show win0_8.index t (0 : Fin 3) * 1 + 1 * 0 = t.val; omega
  | ⟨1, _⟩ => show win0_8.index t (1 : Fin 3) * 3 + 1 * (n : ℕ) = n; omega
  | ⟨2, _⟩ => show win0_8.index t (2 : Fin 3) * 768 + 1 * (k : ℕ) = k; omega

theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)
theorem emb10 (t : Fin cfg0.N) (n : Fin 1024) (k : Fin 768) : ((cfg0.win 10).blk t).view.emb (ix3 0 n k) = ix3 (bt t) n k := by
  obtain ⟨e0, e1, e2⟩ := idx10 t
  funext a; apply Fin.ext
  match a with
  | ⟨0, _⟩ => show win0_10.index t (0 : Fin 3) * 1 + 1 * 0 = t.val; omega
  | ⟨1, _⟩ => show win0_10.index t (1 : Fin 3) * 1024 + 1 * (n : ℕ) = n; omega
  | ⟨2, _⟩ => show win0_10.index t (2 : Fin 3) * 768 + 1 * (k : ℕ) = k; omega

theorem idx9 : ∀ t : Fin cfg0.N, win0_9.index t (0 : Fin 4) = t.val ∧ win0_9.index t (1 : Fin 4) = 0 ∧ win0_9.index t (2 : Fin 4) = 0 ∧ win0_9.index t (3 : Fin 4) = 0 :=
  (by decide +kernel : ∀ t : Fin grid0.N, _)
theorem emb9 (t : Fin cfg0.N) (j : Fin 8) (n : Fin 3) (k : Fin 768) : ((cfg0.win 9).blk t).view.emb (ix4 0 j n k) = ix4 (bt t) j n k := by
  obtain ⟨e0, e1, e2, e3⟩ := idx9 t
  funext a; apply Fin.ext
  match a with
  | ⟨0, _⟩ => show win0_9.index t (0 : Fin 4) * 1 + 1 * 0 = t.val; omega
  | ⟨1, _⟩ => show win0_9.index t (1 : Fin 4) * 8 + 1 * (j : ℕ) = j; omega
  | ⟨2, _⟩ => show win0_9.index t (2 : Fin 4) * 3 + 1 * (n : ℕ) = n; omega
  | ⟨3, _⟩ => show win0_9.index t (3 : Fin 4) * 768 + 1 * (k : ℕ) = k; omega

variable (m : (ℓ : Loc nD τ sig) → Buf (Elt Ideal) ℓ)

/-- The arrays of the launch, as the specification takes them. -/
abbrev launched (c : Dev nD) : Data :=
  dataOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The inputs' windows at a point hold the batch's part of the arrays. -/
theorem loaded (c : Dev nD) (t : Fin cfg0.N) : Loaded (launched m c) (bt t) (iblk m c 0 t) (iblk m c 1 t) (iblk m c 2 t) (iblk m c 3 t)
    (iblk m c 4 t) (iblk m c 5 t) (iblk m c 6 t) (iblk m c 7 t) where
  h1 l := (congrArg (m ((c.tc : Thread nD τ).loc main_arg1)) (emb0 t (place (bt t)) l)).trans (by rw [row_place t _ rfl]; rfl)
  h2 l := (congrArg (m ((c.tc : Thread nD τ).loc main_arg4)) (emb1 t (place (bt t)) l)).trans (by rw [row_place t _ rfl]; rfl)
  h3 l := (congrArg (m ((c.tc : Thread nD τ).loc main_arg6)) (emb2 t (place (bt t)) l)).trans (by rw [row_place t _ rfl]; rfl)
  h4 l := (congrArg (m ((c.tc : Thread nD τ).loc main_arg7)) (emb3 t (place (bt t)) l)).trans (by rw [row_place t _ rfl]; rfl)
  h5 u k := congrArg (m ((c.tc : Thread nD τ).loc main_arg0)) (emb4 t u k)
  h6 u k := congrArg (m ((c.tc : Thread nD τ).loc main_arg2)) (emb5 t u k)
  h7 u k := congrArg (m ((c.tc : Thread nD τ).loc main_arg3)) (emb6 t u k)
  h8 u k := congrArg (m ((c.tc : Thread nD τ).loc main_arg5)) (emb7 t u k)

end Cert.KernelIdeal.Chunk

end
-- ==== Proof.Ideal.Match.lean ====
/- The pieces that the run stores are the ones that the functions of the body's reads name. -/
module

public import proofs.«01_k».proof.Proof.Ideal.Pieces
public import Idealize.ShloMosaic.Lib.Tactic

@[expose] public section

set_option maxRecDepth 16384

noncomputable section

namespace Cert.KernelIdeal.Chunk

open Idealize.ShloMosaic Idealize.ShloMosaic.TcCoe Idealize.ShloMosaic.Tactic Idealize.SL.Sem
open Cert.KernelIdeal Cert.KernelIdeal.Gen Cert.KernelIdeal.Hand

variable {F : FTy → Type} [FloatOps F] [Named F]
  (c : Dev nD) (i : grid0.Coords)
  (arg1 : Memref sig .tc .vmem S8x1024 .f32) (harg1 : arg1.IsWhole) (arg2 : Memref sig .tc .vmem S8x1024 .f32)
  (harg2 : arg2.IsWhole) (arg3 : Memref sig .tc .vmem S8x1024 .f32) (harg3 : arg3.IsWhole)
  (arg4 : Memref sig .tc .vmem S8x768 .f32) (harg4 : arg4.IsWhole) (arg5 : Memref sig .tc .vmem S1x1024x768 .fp8e4m3)
  (harg5 : arg5.IsWhole) (arg6 : Memref sig .tc .vmem S1x1024x768 .bf16) (harg6 : arg6.IsWhole)
  (arg7 : Memref sig .tc .vmem S1x1024x768 .fp8e5m2) (harg7 : arg7.IsWhole) (arg8 : Memref sig .tc .vmem S1x1024x768 .fp8e5m2)
  (harg8 : arg8.IsWhole) (arg9 : Memref sig .tc .vmem S1x3x768 .f32) (harg9 : arg9.IsWhole)
  (arg10 : Memref sig .tc .vmem S1x8x3x768 .f32) (harg10 : arg10.IsWhole) (arg11 : Memref sig .tc .vmem S1x1024x768 .fp8e5m2)
  (harg11 : arg11.IsWhole) (arg12 : Memref sig .tc .vmem S8x1024 .f32) (harg12 : arg12.IsWhole)
  (arg13 : Memref sig .tc .vmem S8x8x128 .f32) (harg13 : arg13.IsWhole) (arg14 : Memref sig .tc .vmem S8x8x128 .f32)
  (harg14 : arg14.IsWhole) (arg15 : Memref sig .tc .vmem S8x8x128 .f32) (harg15 : arg15.IsWhole)
  (arg16 : Memref sig .tc .vmem S8x8x128 .f32) (harg16 : arg16.IsWhole) (arg17 : Memref sig .tc .vmem S8x8x128 .f32)
  (harg17 : arg17.IsWhole)
  (x1 : Vec F S8x1024 .f32) (x2 : Vec F S8x1024 .f32) (x3 : Vec F S8x1024 .f32) (x4 : Vec F S8x768 .f32)
  (x5 : Vec F S1x1024x768 .fp8e4m3) (x6 : Vec F S1x1024x768 .bf16) (x7 : Vec F S1x1024x768 .fp8e5m2)
  (x8 : Vec F S1x1024x768 .fp8e5m2) (s13 : Vec F S8x8x128 .f32) (s14 : Vec F S8x8x128 .f32) (s15 : Vec F S8x8x128 .f32)
  (s16 : Vec F S8x8x128 .f32) (s17 : Vec F S8x8x128 .f32)

theorem v144_eq : kernelRun.sl.v144 (F := F) c i arg1 harg1 arg13 x1
    = rowOf (arg13.view.read (Elt F) (arg13.view.writes (Elt F) arg13.view.junk (rowPieces (arg1.view.read (Elt F) (harg1.unread x1)) 8))) i := by
  sl_kernel_rfl

theorem v147_eq : kernelRun.sl.v147 (F := F) c i arg2 harg2 arg14 x2
    = rowOf (arg14.view.read (Elt F) (arg14.view.writes (Elt F) arg14.view.junk (rowPieces (arg2.view.read (Elt F) (harg2.unread x2)) 8))) i := by
  sl_kernel_rfl

theorem v150_eq : kernelRun.sl.v150 (F := F) c i arg3 harg3 arg15 x3
    = rowOf (arg15.view.read (Elt F) (arg15.view.writes (Elt F) arg15.view.junk (rowPieces (arg3.view.read (Elt F) (harg3.unread x3)) 8))) i := by
  sl_kernel_rfl

theorem v141_eq : kernelRun.sl.v141 (F := F) c i arg4 harg4 arg16 harg16 x4 s16
    = oneMod (rowOf (arg16.view.read (Elt F) (arg16.view.writes (Elt F) (harg16.unread s16)
        (modPieces (arg4.view.read (Elt F) (harg4.unread x4)) 6))) i) := by
  sl_kernel_rfl

theorem runPoint_eq : (runPoint₀ (F := F) c i arg1 harg1 arg2 harg2 arg3 harg3 arg4 harg4 arg5 harg5 arg6 harg6 arg7 harg7 arg8 harg8 arg13 arg14 arg15 arg16 harg16 x1 x2 x3 x4 x5 x6 x7 x8 s16)
    = (runPoint (F := F) i arg13 arg14 arg15 arg16 harg16 x1 x2 x3 x4 x5 x6 x7 x8 s16) := by
  unfold runPoint₀ runPoint
  rw [v144_eq, v147_eq, v150_eq, v141_eq]
  simp only [Memref.IsWhole.read_unread]

set_option maxHeartbeats 4000000 in
theorem run_totals : (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).1
      = (runPoint (F := F) i arg13 arg14 arg15 arg16 harg16 x1 x2 x3 x4 x5 x6 x7 x8 s16).totalPieces arg9.view 8 :=
  (by sl_kernel_rfl : (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).1
      = (runPoint₀ (F := F) c i arg1 harg1 arg2 harg2 arg3 harg3 arg4 harg4 arg5 harg5 arg6 harg6 arg7 harg7 arg8 harg8 arg13 arg14 arg15 arg16 harg16 x1 x2 x3 x4 x5 x6 x7 x8 s16).totalPieces arg9.view 8).trans (congrArg (fun p : Point F => p.totalPieces arg9.view 8) (runPoint_eq ..))

set_option maxHeartbeats 4000000 in
theorem run_blocks : (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.1
      = (runPoint (F := F) i arg13 arg14 arg15 arg16 harg16 x1 x2 x3 x4 x5 x6 x7 x8 s16).blockPieces 8 :=
  (by sl_kernel_rfl : (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.1
      = (runPoint₀ (F := F) c i arg1 harg1 arg2 harg2 arg3 harg3 arg4 harg4 arg5 harg5 arg6 harg6 arg7 harg7 arg8 harg8 arg13 arg14 arg15 arg16 harg16 x1 x2 x3 x4 x5 x6 x7 x8 s16).blockPieces 8).trans (congrArg (fun p : Point F => p.blockPieces 8) (runPoint_eq ..))

set_option maxHeartbeats 4000000 in
theorem run_codes : (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.2.1
      = (runPoint (F := F) i arg13 arg14 arg15 arg16 harg16 x1 x2 x3 x4 x5 x6 x7 x8 s16).codePieces 32 :=
  (by sl_kernel_rfl : (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.2.1
      = (runPoint₀ (F := F) c i arg1 harg1 arg2 harg2 arg3 harg3 arg4 harg4 arg5 harg5 arg6 harg6 arg7 harg7 arg8 harg8 arg13 arg14 arg15 arg16 harg16 x1 x2 x3 x4 x5 x6 x7 x8 s16).codePieces 32).trans (congrArg (fun p : Point F => p.codePieces 32) (runPoint_eq ..))

set_option maxHeartbeats 4000000 in
theorem run_scales : (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.2.2.2.2.2.2.2.1
      = scalePieces (runPoint (F := F) i arg13 arg14 arg15 arg16 harg16 x1 x2 x3 x4 x5 x6 x7 x8 s16) i :=
  (by sl_kernel_rfl : (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.2.2.2.2.2.2.2.1
      = scalePieces (runPoint₀ (F := F) c i arg1 harg1 arg2 harg2 arg3 harg3 arg4 harg4 arg5 harg5 arg6 harg6 arg7 harg7 arg8 harg8 arg13 arg14 arg15 arg16 harg16 x1 x2 x3 x4 x5 x6 x7 x8 s16) i).trans (congrArg (fun p : Point F => scalePieces p i) (runPoint_eq ..))

set_option maxHeartbeats 4000000 in
theorem run_outs : (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.2.2.1
      = outPieces (arg17.view.read (Elt F) (arg17.view.writes (Elt F) (harg17.unread s17) (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.2.2.2.2.2.2.2.1)) 8 := by
  sl_kernel_rfl

end Cert.KernelIdeal.Chunk

end
-- ==== Proof.Ideal.Exact.lean ====
/-
  The run of the kernel over the extended reals, with the values: what each result's window holds after a point, what the scratch buffer of
  scales carries from point to point, and what the four result arrays hold at the end.
-/
module

public import proofs.«01_k».proof.Proof.Ideal.Frame
public import proofs.«01_k».proof.Proof.Ideal.Blocks
public import proofs.«01_k».proof.Proof.Ideal.Match
public import Idealize.ShloMosaic.Lib.Pipeline.DatRel
public import Idealize.ShloMosaic.Lib.Pipeline.ArrRel

@[expose] public section

set_option maxRecDepth 16384

noncomputable section

namespace Cert.KernelIdeal.Exact

open Cert.KernelIdeal Cert.KernelIdeal.Gen Cert.KernelIdeal.Hand Cert.KernelIdeal.Chunk Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

local notation "𝕄" => MT nD τ sig Unit (Elt Ideal) ℕ (UR sig nD τ) ℕ

/-! ### What one run of the body leaves -/

section
variable {D : Data} {b : Fin 112}
  (c : Dev nD) (i : grid0.Coords)
  (arg1 : Memref sig .tc .vmem S8x1024 .f32) (harg1 : arg1.IsWhole) (arg2 : Memref sig .tc .vmem S8x1024 .f32)
  (harg2 : arg2.IsWhole) (arg3 : Memref sig .tc .vmem S8x1024 .f32) (harg3 : arg3.IsWhole)
  (arg4 : Memref sig .tc .vmem S8x768 .f32) (harg4 : arg4.IsWhole) (arg5 : Memref sig .tc .vmem S1x1024x768 .fp8e4m3)
  (harg5 : arg5.IsWhole) (arg6 : Memref sig .tc .vmem S1x1024x768 .bf16) (harg6 : arg6.IsWhole)
  (arg7 : Memref sig .tc .vmem S1x1024x768 .fp8e5m2) (harg7 : arg7.IsWhole) (arg8 : Memref sig .tc .vmem S1x1024x768 .fp8e5m2)
  (harg8 : arg8.IsWhole) (arg9 : Memref sig .tc .vmem S1x3x768 .f32) (harg9 : arg9.IsWhole)
  (arg10 : Memref sig .tc .vmem S1x8x3x768 .f32) (harg10 : arg10.IsWhole) (arg11 : Memref sig .tc .vmem S1x1024x768 .fp8e5m2)
  (harg11 : arg11.IsWhole) (arg12 : Memref sig .tc .vmem S8x1024 .f32) (harg12 : arg12.IsWhole)
  (arg13 : Memref sig .tc .vmem S8x8x128 .f32) (harg13 : arg13.IsWhole) (arg14 : Memref sig .tc .vmem S8x8x128 .f32)
  (harg14 : arg14.IsWhole) (arg15 : Memref sig .tc .vmem S8x8x128 .f32) (harg15 : arg15.IsWhole)
  (arg16 : Memref sig .tc .vmem S8x8x128 .f32) (harg16 : arg16.IsWhole) (arg17 : Memref sig .tc .vmem S8x8x128 .f32)
  (harg17 : arg17.IsWhole)
  (x1 : Vec Ideal S8x1024 .f32) (x2 : Vec Ideal S8x1024 .f32) (x3 : Vec Ideal S8x1024 .f32) (x4 : Vec Ideal S8x768 .f32)
  (x5 : Vec Ideal S1x1024x768 .fp8e4m3) (x6 : Vec Ideal S1x1024x768 .bf16) (x7 : Vec Ideal S1x1024x768 .fp8e5m2)
  (x8 : Vec Ideal S1x1024x768 .fp8e5m2) (s13 : Vec Ideal S8x8x128 .f32) (s14 : Vec Ideal S8x8x128 .f32) (s15 : Vec Ideal S8x8x128 .f32)
  (s16 : Vec Ideal S8x8x128 .f32) (s17 : Vec Ideal S8x8x128 .f32)
  (L : Loaded D b x1 x2 x3 x4 x5 x6 x7 x8) (hi : (i 0).val = b)
include L hi

theorem totals_after (f : arg9.view.ty.Contents (Elt Ideal)) : R8 D b (arg9.view.read (Elt Ideal) (arg9.view.writes (Elt Ideal) f
    (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).1)) := by
  rw [run_totals]
  exact totals_left L i hi arg13 arg14 arg15 arg16 harg16 s16 arg9.view f

theorem blocks_after (f : arg10.view.ty.Contents (Elt Ideal)) : R9 D b (arg10.view.read (Elt Ideal) (arg10.view.writes (Elt Ideal) f
    (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.1)) := by
  rw [run_blocks]
  exact blocks_left L i hi arg13 arg14 arg15 arg16 harg16 s16 arg10.view f

theorem codes_after (f : arg11.view.ty.Contents (Elt Ideal)) : R10 D b (arg11.view.read (Elt Ideal) (arg11.view.writes (Elt Ideal) f
    (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.2.1)) := by
  rw [run_codes]
  exact codes_left L i hi arg13 arg14 arg15 arg16 harg16 s16 arg11.view f

theorem scales_after (hs : Kept D b s17) (f : arg12.view.ty.Contents (Elt Ideal)) : R11 D b (arg12.view.read (Elt Ideal) (arg12.view.writes (Elt Ideal) f
    (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.2.2.1)) := by
  rw [run_outs, run_scales]
  exact scales_left L i hi arg13 arg14 arg15 arg16 harg16 s16 arg12.view f arg17.view _ ((harg17.read_unread s17).symm ▸ hs)

theorem kept_after (hs : Kept D b s17) : Kept D (b + 1) (arg17.view.read (Elt Ideal) (arg17.view.writes (Elt Ideal) (harg17.unread s17)
    (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 s13 s14 s15 s16 s17).2.2.2.2.2.2.2.2.1)) := by
  rw [run_scales]
  exact Kept.succ fun b' h1 h2 j l => scales_kept L i hi arg13 arg14 arg15 arg16 harg16 s16 arg17.view _ ((harg17.read_unread s17).symm ▸ hs) b' h1 h2 j l

end

variable (m : (ℓ : Loc nD τ sig) → Buf (Elt Ideal) ℓ) (ρ : Dev nD → PrngReg)

/-! ### The proof data -/

/-- The invariant before point `n`: the scratch buffer of scales holds the rows of its block so far; the others are at some contents. -/
def PhiV (c : Dev nD) (n : ℕ) : sProp 𝕄 :=
  iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, ⌜Kept (launched m c) n d⌝ ∗ owns (c : Thread nD τ) sc4 fullShare d)) ∗ (∃ r, prngReg c r))

theorem PhiV_in (c : Dev nD) : Pipeline.ΦA spec0 c ⊢ PhiV m c 0 := by
  rw [PhiA0_eq]; unfold PhiV
  iintro ⟨⟨S0, S1, S2, S3, ⟨%e4, S4⟩⟩, Hg⟩
  isplitl [S0 S1 S2 S3 S4]
  · isplitl [S0]; · iexact S0
    isplitl [S1]; · iexact S1
    isplitl [S2]; · iexact S2
    isplitl [S3]; · iexact S3
    iexists _; isplitr; swap; (iexact S4); ipureintro; exact fun b' _ h => absurd h (Nat.not_lt_zero _)
  iexact Hg

theorem PhiV_out (c : Dev nD) (n : ℕ) : PhiV m c n ⊢ Pipeline.ΦA spec0 c := by
  rw [PhiA0_eq]; unfold PhiV
  iintro ⟨⟨S0, S1, S2, S3, ⟨%e4, %h4, S4⟩⟩, Hg⟩
  isplitl [S0 S1 S2 S3 S4]
  · isplitl [S0]; · iexact S0
    isplitl [S1]; · iexact S1
    isplitl [S2]; · iexact S2
    isplitl [S3]; · iexact S3
    iexists _; iexact S4
  iexact Hg

/-- The frame's proof data, with this invariant. -/
def datV (c : Dev nD) : Dat τ (Elt Ideal) Unit ℕ (UR sig nD τ) ℕ cfg0 c := { dats m 0 c with Φ := fun t => PhiV m c t.val }

/-- What a result's window is to hold after a point. -/
def Rl (c : Dev nD) (w : Fin cfg0.W) (t : Fin cfg0.N) : ((cfg0.win w).block.Idx → Elt Ideal (cfg0.win w).elt) → Prop :=
  match w with
  | ⟨8, _⟩ => fun X => R8 (launched m c) (bt t) X
  | ⟨9, _⟩ => fun X => R9 (launched m c) (bt t) X
  | ⟨10, _⟩ => fun X => R10 (launched m c) (bt t) X
  | ⟨11, _⟩ => fun X => R11 (launched m c) (bt t) X
  | _ => fun _ => True

theorem beforeV_0 (c : Dev nD) (t : Fin cfg0.N) (d) : (datV m c).before 0 t d = iblk m c 0 t :=
  before0_0_of m (datV m c) (A_eq m c 0) (after0_0 m c) t d
theorem beforeV_1 (c : Dev nD) (t : Fin cfg0.N) (d) : (datV m c).before 1 t d = iblk m c 1 t :=
  before0_1_of m (datV m c) (A_eq m c 1) (after0_1 m c) t d
theorem beforeV_2 (c : Dev nD) (t : Fin cfg0.N) (d) : (datV m c).before 2 t d = iblk m c 2 t :=
  before0_2_of m (datV m c) (A_eq m c 2) (after0_2 m c) t d
theorem beforeV_3 (c : Dev nD) (t : Fin cfg0.N) (d) : (datV m c).before 3 t d = iblk m c 3 t :=
  before0_3_of m (datV m c) (A_eq m c 3) (after0_3 m c) t d
theorem beforeV_4 (c : Dev nD) (t : Fin cfg0.N) (d) : (datV m c).before 4 t d = iblk m c 4 t :=
  before0_4_of m (datV m c) (A_eq m c 4) (after0_4 m c) t d
theorem beforeV_5 (c : Dev nD) (t : Fin cfg0.N) (d) : (datV m c).before 5 t d = iblk m c 5 t :=
  before0_5_of m (datV m c) (A_eq m c 5) (after0_5 m c) t d
theorem beforeV_6 (c : Dev nD) (t : Fin cfg0.N) (d) : (datV m c).before 6 t d = iblk m c 6 t :=
  before0_6_of m (datV m c) (A_eq m c 6) (after0_6 m c) t d
theorem beforeV_7 (c : Dev nD) (t : Fin cfg0.N) (d) : (datV m c).before 7 t d = iblk m c 7 t :=
  before0_7_of m (datV m c) (A_eq m c 7) (after0_7 m c) t d

/-- What the body is called with at a point, -/
def bodyPre (c : Dev nD) (t : Fin cfg0.N) : sProp 𝕄 :=
  iprop((datV m c).Φ t.castSucc ∗ (datV m c).owesAt () t.castSucc
    ∗ (∃ d, owns (c : Thread nD τ) (st0_0 t) fullShare ((datV m c).before 0 t d))
    ∗ (∃ d, owns (c : Thread nD τ) (st0_1 t) fullShare ((datV m c).before 1 t d))
    ∗ (∃ d, owns (c : Thread nD τ) (st0_2 t) fullShare ((datV m c).before 2 t d))
    ∗ (∃ d, owns (c : Thread nD τ) (st0_3 t) fullShare ((datV m c).before 3 t d))
    ∗ (∃ d, owns (c : Thread nD τ) (st0_4 t) fullShare ((datV m c).before 4 t d))
    ∗ (∃ d, owns (c : Thread nD τ) (st0_5 t) fullShare ((datV m c).before 5 t d))
    ∗ (∃ d, owns (c : Thread nD τ) (st0_6 t) fullShare ((datV m c).before 6 t d))
    ∗ (∃ d, owns (c : Thread nD τ) (st0_7 t) fullShare ((datV m c).before 7 t d))
    ∗ (∃ Y, ⌜((datV m c).toRRel forgets0 (Rl m c)).Finds 8 t Y⌝ ∗ owns (c : Thread nD τ) (st0_8 t) fullShare Y)
    ∗ (∃ Y, ⌜((datV m c).toRRel forgets0 (Rl m c)).Finds 9 t Y⌝ ∗ owns (c : Thread nD τ) (st0_9 t) fullShare Y)
    ∗ (∃ Y, ⌜((datV m c).toRRel forgets0 (Rl m c)).Finds 10 t Y⌝ ∗ owns (c : Thread nD τ) (st0_10 t) fullShare Y)
    ∗ (∃ Y, ⌜((datV m c).toRRel forgets0 (Rl m c)).Finds 11 t Y⌝ ∗ owns (c : Thread nD τ) (st0_11 t) fullShare Y))

/-- and what it returns. -/
def bodyPost (c : Dev nD) (t : Fin cfg0.N) : sProp 𝕄 :=
  iprop((datV m c).Φ t.succ ∗ (datV m c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ (∃ X, ⌜R8 (launched m c) (bt t) X⌝ ∗ owns (c : Thread nD τ) (st0_8 t) fullShare X)
    ∗ (∃ X, ⌜R9 (launched m c) (bt t) X⌝ ∗ owns (c : Thread nD τ) (st0_9 t) fullShare X)
    ∗ (∃ X, ⌜R10 (launched m c) (bt t) X⌝ ∗ owns (c : Thread nD τ) (st0_10 t) fullShare X)
    ∗ (∃ X, ⌜R11 (launched m c) (bt t) X⌝ ∗ owns (c : Thread nD τ) (st0_11 t) fullShare X))

set_option maxHeartbeats 4800000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [beforeV_0, beforeV_1, beforeV_2, beforeV_3, beforeV_4, beforeV_5, beforeV_6, beforeV_7]
  rw [show (datV m c).owesAt () t.succ = (datV m c).owesAt () t.castSucc from rfl,
    show (datV m c).Φ t.succ = PhiV m c (t.val + 1) from rfl, show (datV m c).Φ t.castSucc = PhiV m c t.val from rfl]
  unfold PhiV
  iintro ⟨⟨⟨⟨%e0, S0⟩, ⟨%e1, S1⟩, ⟨%e2, S2⟩, ⟨%e3, S3⟩, ⟨%e4, %h4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩, ⟨%d10, -, H10⟩, ⟨%d11, -, H11⟩⟩
  iapply ((kernelRun (F := Ideal) c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) e0 e1 e2 e3 e4).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [S0]; · iexact S0
  isplitl [S1]; · iexact S1
  isplitl [S2]; · iexact S2
  isplitl [S3]; · iexact S3
  isplitl [S4]; · iexact S4
  iintro ⟨H0, H1, H2, H3, H4, H5, H6, H7, ⟨%f8, H8⟩, ⟨%f9, H9⟩, ⟨%f10, H10⟩, ⟨%f11, H11⟩, ⟨%g0, S0⟩, ⟨%g1, S1⟩, ⟨%g2, S2⟩, S3, S4⟩
  isplitl [S0 S1 S2 S3 S4 Hg]
  · isplitl [S0 S1 S2 S3 S4]
    · isplitl [S0]; · (iexists _; unfold owns; iexists _; isplitr; swap; (iexact S0); ipureintro; rfl)
      isplitl [S1]; · (iexists _; unfold owns; iexists _; isplitr; swap; (iexact S1); ipureintro; rfl)
      isplitl [S2]; · (iexists _; unfold owns; iexists _; isplitr; swap; (iexact S2); ipureintro; rfl)
      isplitl [S3]; · (iexists _; unfold owns; iexists _; isplitr; swap; (iexact S3); ipureintro; rfl)
      iexists _; isplitr; swap; (unfold owns; iexists _; isplitr; swap; (iexact S4); ipureintro; rfl)
      ipureintro; exact kept_after (D := launched m c) (b := bt t) _ _ _ _ _ _ _ _ _ _ _ _ _ _ _ _ _ _ _ _ _ _ _ _ _ _ _ _ _ _ _ _ _ _ _ _ _ _ _ _ _ _ _ _ _ _ _ _ _ (loaded m c t) (coords_bt t) h4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; (unfold owns; iexists _; isplitr; swap; (iexact H8); ipureintro; rfl)
    ipureintro; exact totals_after (D := launched m c) (b := bt t) _ _ _ _ _ _ _ _ _ _ _ _ _ _ _ _ _ _ _ _ _ _ _ _ _ _ _ _ _ _ _ _ _ _ _ _ _ _ _ _ _ _ _ _ _ _ _ _ _ (loaded m c t) (coords_bt t) f8
  isplitl [H9]
  · iexists _; isplitr; swap; (unfold owns; iexists _; isplitr; swap; (iexact H9); ipureintro; rfl)
    ipureintro; exact blocks_after (D := launched m c) (b := bt t) _ _ _ _ _ _ _ _ _ _ _ _ _ _ _ _ _ _ _ _ _ _ _ _ _ _ _ _ _ _ _ _ _ _ _ _ _ _ _ _ _ _ _ _ _ _ _ _ _ (loaded m c t) (coords_bt t) f9
  isplitl [H10]
  · iexists _; isplitr; swap; (unfold owns; iexists _; isplitr; swap; (iexact H10); ipureintro; rfl)
    ipureintro; exact codes_after (D := launched m c) (b := bt t) _ _ _ _ _ _ _ _ _ _ _ _ _ _ _ _ _ _ _ _ _ _ _ _ _ _ _ _ _ _ _ _ _ _ _ _ _ _ _ _ _ _ _ _ _ _ _ _ _ (loaded m c t) (coords_bt t) f10
  iexists _; isplitr; swap; (unfold owns; iexists _; isplitr; swap; (iexact H11); ipureintro; rfl)
  ipureintro; exact scales_after (D := launched m c) (b := bt t) _ _ _ _ _ _ _ _ _ _ _ _ _ _ _ _ _ _ _ _ _ _ _ _ _ _ _ _ _ _ _ _ _ _ _ _ _ _ _ _ _ _ _ _ _ _ _ _ _ (loaded m c t) (coords_bt t) h4 f11

theorem body_obligation (c : Dev nD) :
    BodyObligationRel (datV m c) (defs₀ (F := Ideal)) Variants.none () Set.univ forgets0 (Rl m c) := fun t => by
  rw [bigSep_W0, bigSep_W0, defs₀_row]
  exact triple_restated (sound_body m c t) rfl .rfl fun _ => .rfl

end Cert.KernelIdeal.Exact

end
-- ==== Proof.Ideal.Final.lean ====
/- The four result arrays after the run of the kernel over the extended reals: the specification's. -/
module

public import proofs.«01_k».proof.Proof.Ideal.Exact

@[expose] public section

set_option maxRecDepth 16384

noncomputable section

namespace Cert.KernelIdeal.Exact

open Cert.KernelIdeal Cert.KernelIdeal.Gen Cert.KernelIdeal.Hand Cert.KernelIdeal.Chunk Cert.Spec
open Idealize.ShloMosaic Idealize.ShloMosaic.TcCoe Idealize.ShloMosaic.Tactic
open Idealize.SL Idealize.SL.Sem
open Idealize.ShloMosaic.Pipeline (Dat RDat)

variable (m : (ℓ : Loc nD τ sig) → Buf (Elt Ideal) ℓ) (ρ : Dev nD → PrngReg)

set_option backward.isDefEq.respectTransparency.types false in
theorem run_main :
    θ_run defs (onTc (τ := τ) (main (F := Ideal))) (s₀ m ρ)
      (fun r => Pipeline.RDat.FramePost (cfgs 0) (fun c => (datV m c).toRRel forgets0 (Rl m c)) (V m) r ∧ r.2.sem = fun _ => 0) :=
  Pipeline.RDat.θ_run_frame_track cfgs (0 : Fin 1) launch0 defs₀ Variants.none (fun c => (datV m c).toRRel forgets0 (Rl m c)) m ρ main
    (fun c => (body_obligation m c).toRRel) (fun c => (datV m c).share_full fun _ => rfl) (fun _ _ => rfl) (V m) (hmain m Variants.none)
    (fun c w => A_eq m c w) (fun c => PhiV_in m c) (fun c => PhiV_out m c _) _ (fun _ h => h)

/-! ### Each result's array -/

theorem cut8 (D : Data) (t : Fin cfg0.N) (X : Vec Ideal S1x3x768 .f32) (h : R8 D (bt t) X) :
    (cfg0.win 8).cut (grid0.coords t) X = ((cfg0.win 8).blk t).view.read (Elt Ideal) D.totals := by
  funext y
  have e : ∀ y : S1x3x768.Idx, X y = D.totals (((cfg0.win 8).blk t).view.emb y) := fun y => by
    idx_vars y
    obtain rfl : y0 = (0 : Fin 1) := Subsingleton.elim _ _
    exact (h y1 y2).trans (congrArg D.totals (emb8 t y1 y2)).symm
  exact e y

theorem covered8 (y : S112x3x768.Idx) : ∃ t : Fin cfg0.N, (cfg0.win 8).flush t = true ∧ y ∈ ((cfg0.win 8).blk t).view.set := by
  idx_vars y
  have h0 : (y0 : ℕ) < 112 := y0.isLt
  have h := ((cfg0.win 8).blk (⟨y0, lt_of_lt_of_eq h0 N_0.symm⟩ : Fin cfg0.N)).view.emb_mem_set (ix3 0 y1 y2)
  rw [emb8] at h
  exact ⟨_, flush0_8 _, h⟩

theorem cut9 (D : Data) (t : Fin cfg0.N) (X : Vec Ideal S1x8x3x768 .f32) (h : R9 D (bt t) X) :
    (cfg0.win 9).cut (grid0.coords t) X = ((cfg0.win 9).blk t).view.read (Elt Ideal) D.blocks := by
  funext y
  have e : ∀ y : S1x8x3x768.Idx, X y = D.blocks (((cfg0.win 9).blk t).view.emb y) := fun y => by
    idx_vars y
    obtain rfl : y0 = (0 : Fin 1) := Subsingleton.elim _ _
    exact (h y1 y2 y3).trans (congrArg D.blocks (emb9 t y1 y2 y3)).symm
  exact e y

theorem covered9 (y : S112x8x3x768.Idx) : ∃ t : Fin cfg0.N, (cfg0.win 9).flush t = true ∧ y ∈ ((cfg0.win 9).blk t).view.set := by
  idx_vars y
  have h0 : (y0 : ℕ) < 112 := y0.isLt
  have h := ((cfg0.win 9).blk (⟨y0, lt_of_lt_of_eq h0 N_0.symm⟩ : Fin cfg0.N)).view.emb_mem_set (ix4 0 y1 y2 y3)
  rw [emb9] at h
  exact ⟨_, flush0_9 _, h⟩

theorem cut10 (D : Data) (t : Fin cfg0.N) (X : Vec Ideal S1x1024x768 .fp8e5m2) (h : R10 D (bt t) X) :
    (cfg0.win 10).cut (grid0.coords t) X = ((cfg0.win 10).blk t).view.read (Elt Ideal) D.codes := by
  funext y
  have e : ∀ y : S1x1024x768.Idx, X y = D.codes (((cfg0.win 10).blk t).view.emb y) := fun y => by
    idx_vars y
    obtain rfl : y0 = (0 : Fin 1) := Subsingleton.elim _ _
    exact (h y1 y2).trans (congrArg D.codes (emb10 t y1 y2)).symm
  exact e y

theorem covered10 (y : S112x1024x768.Idx) : ∃ t : Fin cfg0.N, (cfg0.win 10).flush t = true ∧ y ∈ ((cfg0.win 10).blk t).view.set := by
  idx_vars y
  have h0 : (y0 : ℕ) < 112 := y0.isLt
  have h := ((cfg0.win 10).blk (⟨y0, lt_of_lt_of_eq h0 N_0.symm⟩ : Fin cfg0.N)).view.emb_mem_set (ix3 0 y1 y2)
  rw [emb10] at h
  exact ⟨_, flush0_10 _, h⟩

theorem cut11 (D : Data) (t : Fin cfg0.N) (ht : t.val % 8 = 7) (X : Vec Ideal S8x1024 .f32) (h : R11 D (bt t) X) :
    (cfg0.win 11).cut (grid0.coords t) X = ((cfg0.win 11).blk t).view.read (Elt Ideal) D.scales := by
  funext y
  have e : ∀ y : S8x1024.Idx, X y = D.scales (((cfg0.win 11).blk t).view.emb y) := fun y => by
    idx_vars y
    have h0 : (y0 : ℕ) < 8 := y0.isLt
    have hb : (bt t : ℕ) = t.val := rfl
    have h' := h (row t y0) (by simp only [row]; omega) (Fin.le_def.mpr (by simp only [row]; omega)) y1
    rw [place_row] at h'
    exact h'.trans (congrArg D.scales (emb11 t y0 y1)).symm
  exact e y

theorem covered11 (y : S112x1024.Idx) : ∃ t : Fin cfg0.N, (cfg0.win 11).flush t = true ∧ y ∈ ((cfg0.win 11).blk t).view.set := by
  idx_vars y
  have h0 : (y0 : ℕ) < 112 := y0.isLt
  have hN : 8 * ((y0 : ℕ) / 8) + 7 < cfg0.N := lt_of_lt_of_eq (b := 112) (by omega) N_0.symm
  have h := ((cfg0.win 11).blk (⟨8 * ((y0 : ℕ) / 8) + 7, hN⟩ : Fin cfg0.N)).view.emb_mem_set (ix2 (place y0) y1)
  rw [emb11, row_place _ y0 (by show (y0 : ℕ) / 8 = (8 * ((y0 : ℕ) / 8) + 7) / 8; omega)] at h
  exact ⟨_, (flush0_11 _).mpr (by show (8 * ((y0 : ℕ) / 8) + 7) % 8 = 7; omega), h⟩

/-- What the arrays hold at the end of a run. -/
theorem finals {r : PUnit × MemSt nD τ sig (Elt Ideal)}
    (h : Pipeline.RDat.FramePost (cfgs 0) (fun c => (datV m c).toRRel forgets0 (Rl m c)) (V m) r) (c : Dev nD) :
    r.2.mem ((c.tc : Thread nD τ).loc main_v0_0) = (launched m c).totals
    ∧ r.2.mem ((c.tc : Thread nD τ).loc main_v0_1) = (launched m c).blocks
    ∧ r.2.mem ((c.tc : Thread nD τ).loc main_v0_2) = (launched m c).codes
    ∧ r.2.mem ((c.tc : Thread nD τ).loc main_v0_3) = (launched m c).scales := by
  obtain ⟨after, hL, hA⟩ := h.exists_exact c
  refine ⟨(hA 8).trans ?_, (hA 9).trans ?_, (hA 10).trans ?_, (hA 11).trans ?_⟩
  · exact Dat.arrAt_eq_of_cover (((datV m c).toRRel forgets0 (Rl m c)).withAfter after) 8 (launched m c).totals
      (fun t hf => cut8 _ t (after 8 t) ((datV m c).toRRel_leaves (w := 8) rfl (hL 8 t hf))) covered8
  · exact Dat.arrAt_eq_of_cover (((datV m c).toRRel forgets0 (Rl m c)).withAfter after) 9 (launched m c).blocks
      (fun t hf => cut9 _ t (after 9 t) ((datV m c).toRRel_leaves (w := 9) rfl (hL 9 t hf))) covered9
  · exact Dat.arrAt_eq_of_cover (((datV m c).toRRel forgets0 (Rl m c)).withAfter after) 10 (launched m c).codes
      (fun t hf => cut10 _ t (after 10 t) ((datV m c).toRRel_leaves (w := 10) rfl (hL 10 t hf))) covered10
  · exact Dat.arrAt_eq_of_cover (((datV m c).toRRel forgets0 (Rl m c)).withAfter after) 11 (launched m c).scales
      (fun t hf => cut11 _ t ((flush0_11 t).mp hf) (after 11 t) ((datV m c).toRRel_leaves (w := 11) rfl (hL 11 t hf))) covered11

/-- The run of the kernel over the extended reals: its results are the specification's, and its arguments end as they were. -/
theorem run : θ_run defs (onTc (τ := τ) (main (F := Ideal))) ⟨m, fun _ => 0, ρ⟩ (fun r => ∀ c : Dev nD,
      r.2.mem ((c.tc : Thread nD τ).loc main_v0_0) = (launched m c).totals
      ∧ r.2.mem ((c.tc : Thread nD τ).loc main_v0_1) = (launched m c).blocks
      ∧ r.2.mem ((c.tc : Thread nD τ).loc main_v0_2) = (launched m c).codes
      ∧ r.2.mem ((c.tc : Thread nD τ).loc main_v0_3) = (launched m c).scales
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    have f := finals m h.1 c
    ⟨f.1, f.2.1, f.2.2.1, f.2.2.2, h.1.arr_in c 4 rfl, h.1.arr_in c 0 rfl, h.1.arr_in c 5 rfl, h.1.arr_in c 6 rfl, h.1.arr_in c 1 rfl,
      h.1.arr_in c 7 rfl, h.1.arr_in c 2 rfl, h.1.arr_in c 3 rfl⟩) (run_main m ρ)

end Cert.KernelIdeal.Exact

end
-- ==== Proof.Ideal.Algebraic.lean ====
/- The kernel and the reference, over the extended reals, compute the same four results of the same arguments. -/
module

public import proofs.«01_k».proof.Defs
public import proofs.«01_k».proof.Proof.Ideal.Final

@[expose] public section

noncomputable section

namespace Cert.Spec

open Idealize.ShloMosaic Idealize.SL.Sem

/-- The two programs' arguments, being equal, are the same data to the specification. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    dataOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      = Cert.KernelIdeal.Chunk.launched m c := by
  rw [e0, e1, e2, e3, e4, e5, e6, e7]

theorem algebraic : Cert.algebraic_KernelIdeal_ReferenceIdeal (hKernelIdeal := Cert.KernelIdeal.Gen.facts) (hReferenceIdeal := Cert.ReferenceIdeal.Gen.facts) :=
  fun m g m' g' _ h => ⟨fun c => (Cert.KernelIdeal.Chunk.launched m c).totals, fun c => (Cert.KernelIdeal.Chunk.launched m c).blocks,
    fun c => (Cert.KernelIdeal.Chunk.launched m c).codes, fun c => (Cert.KernelIdeal.Chunk.launched m c).scales, Cert.KernelIdeal.Exact.run m g,
    (θ_run Cert.ReferenceIdeal.defs _ _).mono (fun r hr c => by
      obtain ⟨r0, r1, r2, r3, rest⟩ := hr c
      obtain ⟨e0, e1, e2, e3, e4, e5, e6, e7⟩ := h c
      have e := data_eq m m' c e0 e1 e2 e3 e4 e5 e6 e7
      exact ⟨(r0.trans (G8_eq ..)).trans (congrArg Data.totals e), (r1.trans (G9_eq ..)).trans (congrArg Data.blocks e),
        (r2.trans (G10_eq ..)).trans (congrArg Data.codes e), (r3.trans (G11_eq ..)).trans (congrArg Data.scales e), rest⟩)
      (Cert.ReferenceIdeal.Value.run m' g')⟩

end Cert.Spec

end
-- ==== Proof.lean ====
/- The proof of every claim that the certificate makes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Bits.Frame
public import proofs.«01_k».proof.Proof.Ideal.Frame
public import proofs.«01_k».proof.Proof.Ideal.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  IdealRules.named_const.statement Cert.KernelIdeal.κ "inv_d" .f32 0x3AAAAAAB#32 _ rfl,
  Cert.Spec.algebraic⟩

end Cert.Proof

end
